-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 1024]⟩ ⟨2, ![1024, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 128]⟩ ⟨2, ![1024, 1024]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1024 : Shape := ⟨2, ![128, 1024]⟩
abbrev S1024x1024 : Shape := ⟨2, ![1024, 1024]⟩
abbrev S1024x128 : Shape := ⟨2, ![1024, 128]⟩
abbrev S7x128x128 : Shape := ⟨3, ![7, 128, 128]⟩
abbrev S8x128x128 : Shape := ⟨3, ![8, 128, 128]⟩
abbrev S_ : Shape := ⟨0, ![]⟩
abbrev S8 : Shape := ⟨1, ![8]⟩
abbrev S7 : Shape := ⟨1, ![7]⟩
abbrev S1 : Shape := ⟨1, ![1]⟩
abbrev S128x128 : Shape := ⟨2, ![128, 128]⟩
abbrev S1x128x128 : Shape := ⟨3, ![1, 128, 128]⟩

abbrev nBuf : Space → Nat
  | .hbm => 3
  | .vmem => 5
  | .smem => 0
  | _ => 0

abbrev bufTy : (tb : Table) → Fin (tcTables nBuf tb) → BufTy
  | .hbm, ⟨0, _⟩ => ⟨S128x1024, .bf16⟩
  | .hbm, ⟨1, _⟩ => ⟨S1024x1024, .bf16⟩
  | .hbm, ⟨2, _⟩ => ⟨S1024x128, .f32⟩
  | .local _ .vmem, ⟨0, _⟩ => ⟨S128x1024, .bf16⟩
  | .local _ .vmem, ⟨1, _⟩ => ⟨S1024x1024, .bf16⟩
  | .local _ .vmem, ⟨2, _⟩ => ⟨S7x128x128, .bf16⟩
  | .local _ .vmem, ⟨3, _⟩ => ⟨S7x128x128, .bf16⟩
  | .local _ .vmem, ⟨4, _⟩ => ⟨S8x128x128, .f32⟩
  | _, _ => ⟨S128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  (ofTc nBuf bufTy 1 31 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_26 : BitVec 32 := 0#32
  let v36 : BitVec 1 := Scalar.cmpi .ne v2 c0_i32_26
  let v37 : BitVec 32 := Scalar.extui v36
  let c0_i32_27 : BitVec 32 := 0#32
  let v38 : BitVec 1 := Scalar.cmpi .ne v37 c0_i32_27
  v38

def k0_dev1 : Nat :=
  let c0_i32_513 : BitVec 32 := 0#32
  let c0_i32_511 : BitVec 32 := 0#32
  let c1_i32_512 : BitVec 32 := 1#32
  let v579 : BitVec 32 := Scalar.muli c0_i32_511 c1_i32_512
  let v580 : BitVec 32 := Scalar.addi c0_i32_513 v579
  v580.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_28 : BitVec 32 := 1#32
  let v39 : BitVec 1 := Scalar.cmpi .ne v2 c1_i32_28
  let v40 : BitVec 32 := Scalar.extui v39
  let c0_i32_29 : BitVec 32 := 0#32
  let v41 : BitVec 1 := Scalar.cmpi .ne v40 c0_i32_29
  v41

def k0_dev2 : Nat :=
  let c0_i32_513 : BitVec 32 := 0#32
  let c1_i32_511 : BitVec 32 := 1#32
  let c1_i32_512 : BitVec 32 := 1#32
  let v579 : BitVec 32 := Scalar.muli c1_i32_511 c1_i32_512
  let v580 : BitVec 32 := Scalar.addi c0_i32_513 v579
  v580.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_30 : BitVec 32 := 2#32
  let v42 : BitVec 1 := Scalar.cmpi .ne v2 c2_i32_30
  let v43 : BitVec 32 := Scalar.extui v42
  let c0_i32_31 : BitVec 32 := 0#32
  let v44 : BitVec 1 := Scalar.cmpi .ne v43 c0_i32_31
  v44

def k0_dev3 : Nat :=
  let c0_i32_513 : BitVec 32 := 0#32
  let c2_i32_511 : BitVec 32 := 2#32
  let c1_i32_512 : BitVec 32 := 1#32
  let v579 : BitVec 32 := Scalar.muli c2_i32_511 c1_i32_512
  let v580 : BitVec 32 := Scalar.addi c0_i32_513 v579
  v580.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_32 : BitVec 32 := 3#32
  let v45 : BitVec 1 := Scalar.cmpi .ne v2 c3_i32_32
  let v46 : BitVec 32 := Scalar.extui v45
  let c0_i32_33 : BitVec 32 := 0#32
  let v47 : BitVec 1 := Scalar.cmpi .ne v46 c0_i32_33
  v47

def k0_dev4 : Nat :=
  let c0_i32_513 : BitVec 32 := 0#32
  let c3_i32_511 : BitVec 32 := 3#32
  let c1_i32_512 : BitVec 32 := 1#32
  let v579 : BitVec 32 := Scalar.muli c3_i32_511 c1_i32_512
  let v580 : BitVec 32 := Scalar.addi c0_i32_513 v579
  v580.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_34 : BitVec 32 := 4#32
  let v48 : BitVec 1 := Scalar.cmpi .ne v2 c4_i32_34
  let v49 : BitVec 32 := Scalar.extui v48
  let c0_i32_35 : BitVec 32 := 0#32
  let v50 : BitVec 1 := Scalar.cmpi .ne v49 c0_i32_35
  v50

def k0_dev5 : Nat :=
  let c0_i32_513 : BitVec 32 := 0#32
  let c4_i32_511 : BitVec 32 := 4#32
  let c1_i32_512 : BitVec 32 := 1#32
  let v579 : BitVec 32 := Scalar.muli c4_i32_511 c1_i32_512
  let v580 : BitVec 32 := Scalar.addi c0_i32_513 v579
  v580.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_36 : BitVec 32 := 5#32
  let v51 : BitVec 1 := Scalar.cmpi .ne v2 c5_i32_36
  let v52 : BitVec 32 := Scalar.extui v51
  let c0_i32_37 : BitVec 32 := 0#32
  let v53 : BitVec 1 := Scalar.cmpi .ne v52 c0_i32_37
  v53

def k0_dev6 : Nat :=
  let c0_i32_513 : BitVec 32 := 0#32
  let c5_i32_511 : BitVec 32 := 5#32
  let c1_i32_512 : BitVec 32 := 1#32
  let v579 : BitVec 32 := Scalar.muli c5_i32_511 c1_i32_512
  let v580 : BitVec 32 := Scalar.addi c0_i32_513 v579
  v580.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_38 : BitVec 32 := 6#32
  let v54 : BitVec 1 := Scalar.cmpi .ne v2 c6_i32_38
  let v55 : BitVec 32 := Scalar.extui v54
  let c0_i32_39 : BitVec 32 := 0#32
  let v56 : BitVec 1 := Scalar.cmpi .ne v55 c0_i32_39
  v56

def k0_dev7 : Nat :=
  let c0_i32_513 : BitVec 32 := 0#32
  let c6_i32_511 : BitVec 32 := 6#32
  let c1_i32_512 : BitVec 32 := 1#32
  let v579 : BitVec 32 := Scalar.muli c6_i32_511 c1_i32_512
  let v580 : BitVec 32 := Scalar.addi c0_i32_513 v579
  v580.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_40 : BitVec 32 := 7#32
  let v57 : BitVec 1 := Scalar.cmpi .ne v2 c7_i32_40
  let v58 : BitVec 32 := Scalar.extui v57
  let c0_i32_41 : BitVec 32 := 0#32
  let v59 : BitVec 1 := Scalar.cmpi .ne v58 c0_i32_41
  v59

def k0_dev8 : Nat :=
  let c0_i32_513 : BitVec 32 := 0#32
  let c7_i32_511 : BitVec 32 := 7#32
  let c1_i32_512 : BitVec 32 := 1#32
  let v579 : BitVec 32 := Scalar.muli c7_i32_511 c1_i32_512
  let v580 : BitVec 32 := Scalar.addi c0_i32_513 v579
  v580.toNat
def k0_off1 (d0 : Dev nD) (c7_i32_83 : BitVec 32) : Fin 2 → Nat :=
  let c0_85 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v93 : BitVec 32 := Scalar.xori v2 c7_i32_83
  let c128_i32_84 : BitVec 32 := 128#32
  let v94 : BitVec 32 := Scalar.muli v93 c128_i32_84
  let v95 : Index := Scalar.indexCast v94
  ![0, v95.toNat]
def k0_dev9 (d0 : Dev nD) : Nat :=
  let c0_i32_99 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_83 : BitVec 32 := 7#32
  let v93 : BitVec 32 := Scalar.xori v2 c7_i32_83
  let c1_i32_98 : BitVec 32 := 1#32
  let v115 : BitVec 32 := Scalar.muli v93 c1_i32_98
  let v116 : BitVec 32 := Scalar.addi c0_i32_99 v115
  v116.toNat
def k0_dev10 (d0 : Dev nD) : Nat :=
  let c0_i32_119 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_104 : BitVec 32 := 5#32
  let v125 : BitVec 32 := Scalar.xori v2 c5_i32_104
  let c1_i32_118 : BitVec 32 := 1#32
  let v147 : BitVec 32 := Scalar.muli v125 c1_i32_118
  let v148 : BitVec 32 := Scalar.addi c0_i32_119 v147
  v148.toNat
def k0_dev11 (d0 : Dev nD) : Nat :=
  let c0_i32_139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_124 : BitVec 32 := 6#32
  let v157 : BitVec 32 := Scalar.xori v2 c6_i32_124
  let c1_i32_138 : BitVec 32 := 1#32
  let v179 : BitVec 32 := Scalar.muli v157 c1_i32_138
  let v180 : BitVec 32 := Scalar.addi c0_i32_139 v179
  v180.toNat
def k0_dev12 (d0 : Dev nD) : Nat :=
  let c0_i32_159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_144 : BitVec 32 := 3#32
  let v189 : BitVec 32 := Scalar.xori v2 c3_i32_144
  let c1_i32_158 : BitVec 32 := 1#32
  let v211 : BitVec 32 := Scalar.muli v189 c1_i32_158
  let v212 : BitVec 32 := Scalar.addi c0_i32_159 v211
  v212.toNat
def k0_dev13 (d0 : Dev nD) : Nat :=
  let c0_i32_179 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_164 : BitVec 32 := 4#32
  let v221 : BitVec 32 := Scalar.xori v2 c4_i32_164
  let c1_i32_178 : BitVec 32 := 1#32
  let v243 : BitVec 32 := Scalar.muli v221 c1_i32_178
  let v244 : BitVec 32 := Scalar.addi c0_i32_179 v243
  v244.toNat
def k0_dev14 (d0 : Dev nD) : Nat :=
  let c0_i32_199 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_184 : BitVec 32 := 2#32
  let v253 : BitVec 32 := Scalar.xori v2 c2_i32_184
  let c1_i32_198 : BitVec 32 := 1#32
  let v275 : BitVec 32 := Scalar.muli v253 c1_i32_198
  let v276 : BitVec 32 := Scalar.addi c0_i32_199 v275
  v276.toNat
def k0_dev15 (d0 : Dev nD) : Nat :=
  let c0_i32_219 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_204 : BitVec 32 := 1#32
  let v285 : BitVec 32 := Scalar.xori v2 c1_i32_204
  let c1_i32_218 : BitVec 32 := 1#32
  let v307 : BitVec 32 := Scalar.muli v285 c1_i32_218
  let v308 : BitVec 32 := Scalar.addi c0_i32_219 v307
  v308.toNat
def k0_off2 (d0 : Dev nD) : Fin 2 → Nat :=
  let c0_225 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_224 : BitVec 32 := 128#32
  let v317 : BitVec 32 := Scalar.muli v2 c128_i32_224
  let v318 : Index := Scalar.indexCast v317
  ![0, v318.toNat]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_233 : BitVec 32 := 128#32
  let v337 : BitVec 32 := Scalar.muli v2 c128_i32_233
  let c0_i32_236 : BitVec 32 := 0#32
  ![v337.toNat, 0]
def k0_off4 (d0 : Dev nD) (c7_i32_239 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v343 : BitVec 32 := Scalar.xori v2 c7_i32_239
  let c128_i32_256 : BitVec 32 := 128#32
  let v358 : BitVec 32 := Scalar.muli v343 c128_i32_256
  let c0_i32_259 : BitVec 32 := 0#32
  ![v358.toNat, 0]
-- ==== ReferenceIdeal.lean ====
abbrev S1024x1024 : Shape := ⟨2, ![1024, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.KernelIdeal.Steps.lean ====
/- The kernel's body, written as the sequence of its steps: one definition per kind of step, at a symbolic
   block or slot, and the equation saying that the printed body is that sequence. -/
module

public import proofs.«01_k».proof.Proof.Gen.KernelIdeal.Points

@[expose] public section

set_option synthInstance.maxSize 4096

noncomputable section

namespace Cert.KernelIdeal.Pf

open Idealize.ShloMosaic Idealize.ShloMosaic.TcCoe
open Idealize.SL Idealize.SL.Sem
open Cert.KernelIdeal.Gen

variable {F : FTy → Type} [FloatOps F]

/-! ## The buffers -/

abbrev xIn : Memref sig .tc .hbm S128x1024 .bf16 := Memref.whole main_arg0
abbrev wIn : Memref sig .tc .hbm S1024x1024 .bf16 := Memref.whole main_arg1
abbrev yOut : Memref sig .tc .hbm S1024x128 .f32 := Memref.whole main_v1
abbrev xBuf : Memref sig .tc .vmem S128x1024 .bf16 := Memref.whole cc0_scratch0
abbrev wBuf : Memref sig .tc .vmem S1024x1024 .bf16 := Memref.whole cc0_scratch1
abbrev sBuf : Memref sig .tc .vmem S7x128x128 .bf16 := Memref.whole cc0_scratch2
abbrev rBuf : Memref sig .tc .vmem S7x128x128 .bf16 := Memref.whole cc0_scratch3
abbrev oBuf : Memref sig .tc .vmem S8x128x128 .f32 := Memref.whole cc0_scratch4

/-! ## The semaphores -/

theorem inbS8 (r : Fin 8) : ∀ a, (![r.val] : Fin 1 → Nat) a + S1.size a ≤ S8.size a := by revert r; decide
theorem inbS7 (s : Fin 7) : ∀ a, (![s.val] : Fin 1 → Nat) a + S1.size a ≤ S7.size a := by revert s; decide

/-- The barrier semaphore. -/
abbrev barSem : Sem sig := (SemArray.scalar (sig.barrier 0 rfl) : Sems sig S_).sem
/-- The semaphore of the copy of `x` into the core's memory. -/
abbrev xSem : DmaSem sig := cc0_scratch5.sem
/-- The semaphore of the copy of row block `r` of `w` into the core's memory. -/
abbrev wSem (r : Fin 8) : DmaSem sig :=
  ((cc0_scratch6.slice (Rect.unit (s := S8) ![r.val] S1.size (inbS8 r))).squeeze S_ squeezes_S1_S_).sem
/-- The semaphore of the copy of output slot `j` into the result. -/
abbrev oSem (j : Fin 8) : DmaSem sig :=
  ((cc0_scratch7.slice (Rect.unit (s := S8) ![j.val] S1.size (inbS8 j))).squeeze S_ squeezes_S1_S_).sem
/-- The semaphore counting that the tile in send slot `s` has left. -/
abbrev sSem (s : Fin 7) : DmaSem sig :=
  ((cc0_scratch8.slice (Rect.unit (s := S7) ![s.val] S1.size (inbS7 s))).squeeze S_ squeezes_S1_S_).sem
/-- The semaphore counting that a tile has landed in receive slot `s`. -/
abbrev rSem (s : Fin 7) : DmaSem sig :=
  ((cc0_scratch9.slice (Rect.unit (s := S7) ![s.val] S1.size (inbS7 s))).squeeze S_ squeezes_S1_S_).sem

/-! ## The rectangles and the views through them -/

theorem inbSlot7 (s : Fin 7) : ∀ a, (![s.val, 0, 0] : Fin 3 → Nat) a + S1x128x128.size a ≤ S7x128x128.size a := by
  revert s; decide
theorem inbSlot8 (j : Fin 8) : ∀ a, (![j.val, 0, 0] : Fin 3 → Nat) a + S1x128x128.size a ≤ S8x128x128.size a := by
  revert j; decide
theorem inbRows (r : Fin 8) : ∀ a, (![128 * r.val, 0] : Fin 2 → Nat) a + S128x1024.size a ≤ S1024x1024.size a := by
  revert r; decide

abbrev slot7 (s : Fin 7) : Rect S7x128x128 := Rect.unit (s := S7x128x128) ![s.val, 0, 0] S1x128x128.size (inbSlot7 s)
abbrev slot8 (j : Fin 8) : Rect S8x128x128 := Rect.unit (s := S8x128x128) ![j.val, 0, 0] S1x128x128.size (inbSlot8 j)
abbrev rows (r : Fin 8) : Rect S1024x1024 := Rect.unit (s := S1024x1024) ![128 * r.val, 0] S128x1024.size (inbRows r)

theorem words7 (s : Fin 7) : (slot7 s).WholeWords (EltTy.packing .bf16) := by revert s; decide
theorem packed7 (s : Fin 7) : (slot7 s).PackedRows (EltTy.packing .bf16) := by revert s; decide
theorem wordsRows (r : Fin 8) : (rows r).WholeWords (EltTy.packing .bf16) := by revert r; decide

/-- Send slot `s`, as a matrix. -/
abbrev sSlot (s : Fin 7) : Memref sig .tc .vmem S128x128 .bf16 :=
  (sBuf.slice (slot7 s) (fun _ => rfl)).squeeze S128x128 squeezes_S1x128x128_S128x128
/-- Receive slot `s`, as a matrix. -/
abbrev rSlot (s : Fin 7) : Memref sig .tc .vmem S128x128 .bf16 :=
  (rBuf.slice (slot7 s) (fun _ => rfl)).squeeze S128x128 squeezes_S1x128x128_S128x128
/-- Output slot `j`, as a matrix. -/
abbrev oSlot (j : Fin 8) : Memref sig .tc .vmem S128x128 .f32 :=
  (oBuf.slice (slot8 j) (fun _ => rfl)).squeeze S128x128 squeezes_S1x128x128_S128x128
/-- Row block `r` of the array `w`. -/
abbrev wRowsIn (r : Fin 8) : Memref sig .tc .hbm S128x1024 .bf16 := wIn.slice (rows r) (fun _ => rfl)
/-- Row block `r` of the copy of `w`. -/
abbrev wRows (r : Fin 8) : Memref sig .tc .vmem S128x1024 .bf16 := wBuf.slice (rows r) (fun _ => rfl)

theorem sSlot_words (s : Fin 7) : (sSlot s).view.WordExact :=
  ((Memref.isWhole_whole cc0_scratch2).wordExact_slice rfl _ (words7 s)).reshape _ _
theorem rSlot_words (s : Fin 7) : (rSlot s).view.WordExact :=
  ((Memref.isWhole_whole cc0_scratch3).wordExact_slice rfl _ (words7 s)).reshape _ _

/-! ## What the steps address, as the kernel computes it -/

/-- The offset of step `s`, less one: the device of step `s` is this device's number xor'd with the offset. -/
def offP (s : Fin 7) : Fin 7 := (![6, 4, 5, 2, 3, 1, 0] : Fin 7 → Fin 7) s

/-- The device step `s` sends to. -/
def sendTo (d : Dev nD) (s : Fin 7) : Dev nD :=
  match s with
  | 0 => ⟨k0_dev9 d, k0_dev9_lt d⟩
  | 1 => ⟨k0_dev10 d, k0_dev10_lt d⟩
  | 2 => ⟨k0_dev11 d, k0_dev11_lt d⟩
  | 3 => ⟨k0_dev12 d, k0_dev12_lt d⟩
  | 4 => ⟨k0_dev13 d, k0_dev13_lt d⟩
  | 5 => ⟨k0_dev14 d, k0_dev14_lt d⟩
  | 6 => ⟨k0_dev15 d, k0_dev15_lt d⟩

/-- The columns of `w` of the tile step `s` computes. -/
abbrev tileCols (d : Dev nD) (s : Fin 7) : Rect S1024x1024 :=
  Rect.unit (s := S1024x1024) (k0_off1 d (BitVec.ofNat 32 (1 + (offP s).val))) S1024x128.size (k0_off1_inb d (offP s))
/-- The columns of `w` of the tile the device keeps. -/
abbrev ownCols (d : Dev nD) : Rect S1024x1024 :=
  Rect.unit (s := S1024x1024) (k0_off2 d) S1024x128.size (k0_off2_inb d)
/-- The rows of the result that receive slot `s` fills. -/
abbrev tileOut (d : Dev nD) (s : Fin 7) : Memref sig .tc .hbm S128x128 .f32 :=
  yOut.slice (Rect.unit (s := S1024x128) (k0_off4 d (BitVec.ofNat 32 (1 + (offP s).val))) S128x128.size
    (k0_off4_inb d (offP s))) (fun _ => rfl)
/-- The rows of the result that the device's own tile fills. -/
abbrev ownOut (d : Dev nD) : Memref sig .tc .hbm S128x128 .f32 :=
  yOut.slice (Rect.unit (s := S1024x128) (k0_off3 d) S128x128.size (k0_off3_inb d)) (fun _ => rfl)

/-! ## The tile -/

/-- The activation, entry by entry: `0.5·y·(1 + tanh(0.79788·(y + 0.044715·y·y·y)))`. -/
def act (y : FVec F S128x128 .f32) : FVec F S128x128 .f32 :=
  mulf (mulf (broadcast S128x128 (Scalar.ofBits .f32 0x3F000000#32)) y)
    (addf (broadcast S128x128 (Scalar.ofBits .f32 0x3F800000#32))
      (tanh (mulf (broadcast S128x128 (Scalar.ofBits .f32 0x3F4C422A#32))
        (addf y (mulf (mulf (mulf (broadcast S128x128 (Scalar.ofBits .f32 0x3D372713#32)) y) y) y)))))

/-- The activation of the product of `x` with a block of columns of `w`. -/
def tile (x : Vec F S128x1024 .bf16) (w : Vec F S1024x128 .bf16) : FVec F S128x128 .f32 :=
  act (matmul dot_S128x1024_S1024x128_S128x128_1_0_0_1_n_n none x w (constant S128x128 .f32 0x00000000#32))

/-- The tile rounded for sending. -/
def tile16 (x : Vec F S128x1024 .bf16) (w : Vec F S1024x128 .bf16) : FVec F S128x128 .bf16 :=
  truncf .bf16 (tile x w) bitsLt_bf16_f32

/-- A slot's content from a matrix. -/
abbrev up16 (v : FVec F S128x128 .bf16) : FVec F S1x128x128 .bf16 := shapeCast S1x128x128 v shapeCasts_S128x128_S1x128x128
abbrev up32 (v : FVec F S128x128 .f32) : FVec F S1x128x128 .f32 := shapeCast S1x128x128 v shapeCasts_S128x128_S1x128x128

/-- What is stored in an output slot from what a receive slot holds. -/
def widen (v : Vec F S1x128x128 .bf16) : FVec F S1x128x128 .f32 :=
  up32 (extf .f32 (shapeCast S128x128 v shapeCasts_S1x128x128_S128x128) bitsLt_bf16_f32)

/-! ## The steps -/

/-- Programs of the core. -/
abbrev P (F : FTy → Type) (α : Type) := Prog (TpuEff nD τ sig (Elt F) Λ₀ .tc) α

/-- Do `f` at each index of a list in order. -/
def each {ι : Type} (f : ι → P F PUnit) : List ι → P F PUnit
  | [] => pure ⟨⟩
  | i :: l => f i >>= fun _ => each f l

/-- Start the copy of `x`. -/
def xStart : P F PUnit :=
  Prog.lift (.enqueueDma xIn (.here xBuf) (.dma xSem) (Memref.isWhole_whole main_arg0).wordExact
    (Memref.isWhole_whole cc0_scratch0).wordExact ⟨Or.inl rfl, trivial⟩)

/-- Start the copy of row block `r` of `w`. -/
def wStart (r : Fin 8) : P F PUnit :=
  Prog.lift (.enqueueDma (wRowsIn r) (.here (wRows r)) (.dma (wSem r))
    ((Memref.isWhole_whole main_arg1).wordExact_slice rfl _ (wordsRows r))
    ((Memref.isWhole_whole cc0_scratch1).wordExact_slice rfl _ (wordsRows r)) ⟨Or.inl rfl, trivial⟩)

/-- Wait for the copy of `x`. -/
def xWait : P F PUnit :=
  Prog.lift (.waitDma2 xSem xIn xBuf (Memref.isWhole_whole main_arg0).wordExact (Memref.isWhole_whole cc0_scratch0).wordExact)

/-- Wait for the copy of row block `r` of `w`. -/
def wWait (r : Fin 8) : P F PUnit :=
  Prog.lift (.waitDma2 (wSem r) (wRowsIn r) (wRows r)
    ((Memref.isWhole_whole main_arg1).wordExact_slice rfl _ (wordsRows r))
    ((Memref.isWhole_whole cc0_scratch1).wordExact_slice rfl _ (wordsRows r)))

/-- Whether device `d` signals device `j`, as the kernel decides it: when they differ. -/
def tells (d : Dev nD) (j : Fin 8) : BitVec 1 :=
  match j with
  | 0 => k0_cond1 d
  | 1 => k0_cond2 d
  | 2 => k0_cond3 d
  | 3 => k0_cond4 d
  | 4 => k0_cond5 d
  | 5 => k0_cond6 d
  | 6 => k0_cond7 d
  | 7 => k0_cond8 d

/-- The device signalled at position `j`, as the kernel computes it. -/
def told (d : Dev nD) (j : Fin 8) : tells d j = 1#1 → Dev nD :=
  match j with
  | 0 => fun h => ⟨k0_dev1, k0_dev1_lt d h⟩
  | 1 => fun h => ⟨k0_dev2, k0_dev2_lt d h⟩
  | 2 => fun h => ⟨k0_dev3, k0_dev3_lt d h⟩
  | 3 => fun h => ⟨k0_dev4, k0_dev4_lt d h⟩
  | 4 => fun h => ⟨k0_dev5, k0_dev5_lt d h⟩
  | 5 => fun h => ⟨k0_dev6, k0_dev6_lt d h⟩
  | 6 => fun h => ⟨k0_dev7, k0_dev7_lt d h⟩
  | 7 => fun h => ⟨k0_dev8, k0_dev8_lt d h⟩

/-- Tell device `j`, if it is another one, that this device is ready to receive. -/
def tellOne (d : Dev nD) (j : Fin 8) : P F PUnit :=
  if h : tells d j = 1#1 then do
    semSignalWord (told d j h) barSem 1#32
    pure ⟨⟩
  else do
    pure ⟨⟩

/-- Load `x`. -/
def xLoad : P F (Vec F S128x1024 .bf16) :=
  Prog.lift (.load xBuf (Rect.unit (s := S128x1024) ![0, 0] S128x1024.size inb_S128x1024_S128x1024_0_0).toLoadRect
    (View.loadsAt_vmem h_S128x1024))

/-- Compute the tile of step `s` into send slot `s`. -/
def fill (d : Dev nD) (x : Vec F S128x1024 .bf16) (s : Fin 7) : P F PUnit := do
  let w : Vec F S1024x128 .bf16 ← Prog.lift (.load wBuf (tileCols d s).toLoadRect (View.loadsAt_vmem h_S1024x128))
  let _ : Vec F S1x128x128 .bf16 ← Prog.lift (.load sBuf (slot7 s).toLoadRect (View.loadsAt_vmem h_S1x128x128))
  Prog.lift (.store sBuf (slot7 s) (up16 (tile16 x w)) Finset.univ
    (View.stores_vmem h_S1x128x128 ((Memref.isWhole_whole cc0_scratch2).storeExact_slice rfl _ (packed7 s)) (fun _ => rfl))
    (.inl rfl))

/-- Wait until every other device is ready to receive. -/
def barWait : P F PUnit := semWaitWord barSem 7#32

/-- Send slot `s`. -/
def post (d : Dev nD) (s : Fin 7) : P F PUnit :=
  Prog.lift (.enqueueDma (sSlot s) (.remote (Dev.tc (sendTo d s)) (rSlot s) (.dma (sSem s))) (.dma (rSem s))
    (sSlot_words s) (rSlot_words s) ⟨⟨rfl, Or.inl rfl⟩, trivial⟩)

/-- Compute the device's own tile into output slot `7` and start its copy. -/
def own (d : Dev nD) (x : Vec F S128x1024 .bf16) : P F PUnit := do
  let w : Vec F S1024x128 .bf16 ← Prog.lift (.load wBuf (ownCols d).toLoadRect (View.loadsAt_vmem h_S1024x128))
  let _ : Vec F S1x128x128 .f32 ← Prog.lift (.load oBuf (slot8 7).toLoadRect (View.loadsAt_vmem h_S1x128x128))
  Prog.lift (.store oBuf (slot8 7) (up32 (tile x w)) Finset.univ (View.stores_vmem_bits_univ h_S1x128x128 rfl) (.inl rfl))
  Prog.lift (.enqueueDma (oSlot 7) (.here (ownOut d)) (.dma (oSem 7)) ((View.wordExact_bits rfl).reshape _ _)
    (View.wordExact_bits rfl) ⟨Or.inl rfl, trivial⟩)

/-- Wait for the tile of receive slot `s`, widen it into output slot `s` and start its copy. -/
def drain (d : Dev nD) (s : Fin 7) : P F PUnit := do
  Prog.lift (.waitDma2 (rSem s) (sSlot s) (rSlot s) (sSlot_words s) (rSlot_words s))
  let v : Vec F S1x128x128 .bf16 ← Prog.lift (.load rBuf (slot7 s).toLoadRect (View.loadsAt_vmem h_S1x128x128))
  let _ : Vec F S1x128x128 .f32 ← Prog.lift (.load oBuf (slot8 s.castSucc).toLoadRect (View.loadsAt_vmem h_S1x128x128))
  Prog.lift (.store oBuf (slot8 s.castSucc) (widen v) Finset.univ (View.stores_vmem_bits_univ h_S1x128x128 rfl) (.inl rfl))
  Prog.lift (.enqueueDma (oSlot s.castSucc) (.here (tileOut d s)) (.dma (oSem s.castSucc)) ((View.wordExact_bits rfl).reshape _ _)
    (View.wordExact_bits rfl) ⟨Or.inl rfl, trivial⟩)

/-- Wait for the copy of output slot `s`. -/
def outWait (d : Dev nD) (s : Fin 7) : P F PUnit :=
  Prog.lift (.waitDma2 (oSem s.castSucc) (oSlot s.castSucc) (tileOut d s) ((View.wordExact_bits rfl).reshape _ _)
    (View.wordExact_bits rfl))

/-- Wait for the copy of the device's own tile. -/
def ownWait (d : Dev nD) : P F PUnit :=
  Prog.lift (.waitDma2 (oSem 7) (oSlot 7) (ownOut d) ((View.wordExact_bits rfl).reshape _ _) (View.wordExact_bits rfl))

/-- Wait until the tile of send slot `s` has left. -/
def sentWait (s : Fin 7) : P F PUnit :=
  Prog.lift (.waitDma2 (sSem s) (rSlot s) (sSlot s) (rSlot_words s) (sSlot_words s))

/-- The body, once the device knows its number. -/
def progAt (d : Dev nD) : P F PUnit := do
  xStart
  each wStart [0, 1, 2, 3, 4, 5, 6, 7]
  each (tellOne d) [0, 1, 2, 3, 4, 5, 6, 7]
  xWait
  each wWait [0, 1, 2, 3, 4, 5, 6, 7]
  let x ← xLoad
  fill d x 0
  barWait
  post d 0
  each (fun s => fill d x s >>= fun _ => post d s) [1, 2, 3, 4, 5, 6]
  own d x
  each (drain d) [0, 1, 2, 3, 4, 5, 6]
  each (outWait d) [0, 1, 2, 3, 4, 5, 6]
  ownWait d
  each sentWait [0, 1, 2, 3, 4, 5, 6]

/-- The body. -/
def prog : P F PUnit := Prog.lift .deviceId >>= progAt

end Cert.KernelIdeal.Pf

end
-- ==== Proof.KernelIdeal.Proto.lean ====
/- The protocol of the kernel's semaphores, as one round of duties per semaphore cell.

   Every device has a barrier cell, on which each of the other seven signals once, handing over the receive slot this
   device may then write; a receive cell and a send cell per slot, both paid by the copy that fills the slot on the
   other side; and a cell for each copy a device makes within itself. What each landing hands over is stated with its
   contents: the tile the sender computed. -/
module

public import proofs.«01_k».proof.Proof.KernelIdeal.Steps
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option synthInstance.maxSize 4096

noncomputable section

namespace Cert.KernelIdeal.Pf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## The resources: the pipeline's ghost state, and the rounds' with seven duty names -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ)

/-! ## Who talks to whom -/

set_option backward.proofsInPublic true in
/-- The device that exchanges tiles with `c` at step `s`: its number is `c`'s xor'd with the step's offset. -/
def peer (c : Dev nD) (s : Fin 7) : Dev nD := ⟨(c.val ^^^ (1 + (offP s).val)) % 8, Nat.mod_lt _ (by decide)⟩

theorem peer_peer (c : Dev nD) (s : Fin 7) : peer (peer c s) s = c := by revert c s; decide
theorem peer_ne (c : Dev nD) (s : Fin 7) : peer c s ≠ c := by revert c s; decide
theorem peer_inj (c : Dev nD) : Function.Injective (peer c) := by revert c; decide
theorem peer_surj (c j : Dev nD) (h : j ≠ c) : ∃ s, peer c s = j := by revert c j h; decide

/-- The other devices are those of the seven steps. -/
theorem others (c : Dev nD) : Finset.univ.erase c = Finset.univ.map ⟨peer c, peer_inj c⟩ := by
  ext j
  simp only [Finset.mem_erase, Finset.mem_univ, and_true, Finset.mem_map, true_and, Function.Embedding.coeFn_mk]
  exact ⟨fun h => peer_surj c j h, fun ⟨s, h⟩ => h ▸ peer_ne c s⟩

theorem sendTo_eq (c : Dev nD) (s : Fin 7) : sendTo c s = peer c s := by revert c s; decide +kernel

/-- One statement per device is the statement of this device and of its partner at each step. -/
theorem bigSep_peers (c : Dev nD) (Φ : Dev nD → sProp 𝕄) :
    bigSep Finset.univ Φ = iprop(Φ c ∗ bigSep Finset.univ fun s : Fin 7 => Φ (peer c s)) := by
  rw [bigSep_univ_split c, others, bigSep_map]; rfl

/-! ## The cells -/

/-- The core's own cells: the copy of `x`, the copy of the own tile, the copies of the row blocks of `w`, the copies of
    the received tiles, the tiles sent and the tiles received. -/
abbrev Ow : Type := Unit ⊕ Unit ⊕ Fin 8 ⊕ Fin 7 ⊕ Fin 7 ⊕ Fin 7
/-- All its cells: the barrier's, and those. -/
abbrev Cl : Type := Unit ⊕ Ow

abbrev Cl.bar : Cl := .inl ()
abbrev Cl.x : Cl := .inr (.inl ())
abbrev Cl.own : Cl := .inr (.inr (.inl ()))
abbrev Cl.w (r : Fin 8) : Cl := .inr (.inr (.inr (.inl r)))
abbrev Cl.out (s : Fin 7) : Cl := .inr (.inr (.inr (.inr (.inl s))))
abbrev Cl.snd (s : Fin 7) : Cl := .inr (.inr (.inr (.inr (.inr (.inl s)))))
abbrev Cl.rcv (s : Fin 7) : Cl := .inr (.inr (.inr (.inr (.inr (.inr s)))))

/-- The semaphore of an own cell. -/
abbrev osem : Ow → SemLoc sig
  | .inl _ => .dma xSem
  | .inr (.inl _) => .dma (oSem 7)
  | .inr (.inr (.inl r)) => .dma (wSem r)
  | .inr (.inr (.inr (.inl s))) => .dma (oSem s.castSucc)
  | .inr (.inr (.inr (.inr (.inl s)))) => .dma (sSem s)
  | .inr (.inr (.inr (.inr (.inr s)))) => .dma (rSem s)

/-- The semaphore of a cell. -/
abbrev csem : Cl → SemLoc sig
  | .inl _ => .reg barSem
  | .inr k => osem k

theorem csem_inj : Function.Injective csem := by decide +kernel

/-- Cell `k` of device `c`. -/
abbrev kc (c : Dev nD) (k : Cl) : GSem nD τ sig := ((c : Thread nD τ), csem k)

/-- The cell a semaphore is of, if any. -/
def decode (s : SemLoc sig) : Option Cl := open Classical in if h : ∃ k, csem k = s then some h.choose else none

theorem decode_csem (k : Cl) : decode (csem k) = some k := by
  have h : ∃ k', csem k' = csem k := ⟨k, rfl⟩
  unfold decode
  rw [dif_pos h, csem_inj h.choose_spec]

/-! ## Contents -/

/-- Device `c`'s rows of `x` and its copy of `w`, as the launch finds them. -/
def xVal (c : Dev nD) : Vec F S128x1024 .bf16 := m ((c : Thread nD τ).loc main_arg0)
def wVal (c : Dev nD) : Vec F S1024x1024 .bf16 := m ((c : Thread nD τ).loc main_arg1)

/-- Row block `r` of `w`. -/
def wBlk (c : Dev nD) (r : Fin 8) : Vec F S128x1024 .bf16 := fun j => wVal m c ((rows r).emb j)

/-- The tile device `c` computes at step `s`, rounded for sending. -/
def tileAt (c : Dev nD) (s : Fin 7) : Vec F S128x128 .bf16 :=
  tile16 (xVal m c) fun j => wVal m c ((tileCols c s).emb j)

/-- The tile device `c` keeps. -/
def ownTile (c : Dev nD) : Vec F S128x128 .f32 := tile (xVal m c) fun j => wVal m c ((ownCols c).emb j)

/-- What device `c` makes of the tile received at step `s`. -/
def gotTile (c : Dev nD) (s : Fin 7) : Vec F S128x128 .f32 := extf .f32 (tileAt m (peer c s) s) bitsLt_bf16_f32

/-- A memref owned whole, at some contents. -/
def any {sp : Space} {s : Shape} {e : EltTy} (c : Dev nD) (r : Memref sig .tc sp s e) : sProp 𝕄 :=
  iprop(∃ X, owns (c : Thread nD τ) r fullShare X)

omit [FloatOps F] in
instance any_storable {sp : Space} {s : Shape} {e : EltTy} (c : Dev nD) (r : Memref sig .tc sp s e) :
    BI.Storable (upEmb : UEmb _ 𝕄) (any (F := F) c r) := by unfold any; infer_instance

/-! ## The schedule -/

/-- The units a cell's duty raises. -/
def amt : Cl → ℕ
  | .inl _ => 1
  | .inr (.inl _) => xBuf.view.dmaCredit
  | .inr (.inr (.inl _)) => (oSlot 7).view.dmaCredit
  | .inr (.inr (.inr (.inl r))) => (wRows r).view.dmaCredit
  | .inr (.inr (.inr (.inr (.inl s)))) => (oSlot s.castSucc).view.dmaCredit
  | .inr (.inr (.inr (.inr (.inr (.inl s))))) => (sSlot s).view.dmaCredit
  | .inr (.inr (.inr (.inr (.inr (.inr s))))) => (rSlot s).view.dmaCredit

/-- What a cell's duty hands its waiter. -/
def pay (c : Dev nD) : Cl → Fin 7 → sProp 𝕄
  | .inl _, d => any (peer c d) (rSlot d)
  | .inr (.inl _), _ => iprop(owns (c : Thread nD τ) xBuf fullShare (xVal m c) ∗ owns (c : Thread nD τ) xIn fullShare (xVal m c))
  | .inr (.inr (.inl _)), _ => iprop(owns (c : Thread nD τ) (ownOut c) fullShare (ownTile m c) ∗ any c (oSlot 7))
  | .inr (.inr (.inr (.inl r))), _ =>
    iprop(owns (c : Thread nD τ) (wRows r) fullShare (wBlk m c r) ∗ owns (c : Thread nD τ) (wRowsIn r) fullShare (wBlk m c r))
  | .inr (.inr (.inr (.inr (.inl s)))), _ =>
    iprop(owns (c : Thread nD τ) (tileOut c s) fullShare (gotTile m c s) ∗ any c (oSlot s.castSucc))
  | .inr (.inr (.inr (.inr (.inr (.inl s))))), _ => any c (sSlot s)
  | .inr (.inr (.inr (.inr (.inr (.inr s))))), _ => owns (c : Thread nD τ) (rSlot s) fullShare (tileAt m (peer c s) s)

instance pay_storable (c : Dev nD) (k : Cl) (d : Fin 7) : BI.Storable (upEmb : UEmb _ 𝕄) (pay m c k d) := by
  rcases k with _ | _ | _ | _ | _ | _ | _ <;> (unfold pay; infer_instance)

/-- The duties of a cell: on the barrier's one per other device, elsewhere one. -/
def dut : Cl → Finset (Fin 7)
  | .inl _ => Finset.univ
  | .inr _ => {0}

theorem amt_pos (k : Cl) : 0 < amt k := by
  rcases k with _ | _ | _ | _ | _ | _ | _
  · exact Nat.one_pos
  all_goals exact View.dmaCredit_pos _ (by decide)

/-- The schedule: one round per cell. -/
def Rd : Rounds.Schedule (GSem nD τ sig) (Fin 7) 𝕄 where
  duties g r := if r = 0 ∧ g.1.2 = .tc then (decode g.2).elim ∅ dut else ∅
  unitless _ := False
  amount g _ _ := (decode g.2).elim 1 amt
  payload g _ d := (decode g.2).elim iprop(emp) fun k => pay m g.1.1 k d
  amount_pos g _ _ _ := by
    cases decode g.2 with
    | none => exact Nat.one_pos
    | some k => exact amt_pos k

instance Rd_storable (g : GSem nD τ sig) (r : ℕ) (d : Fin 7) :
    BI.Storable (upEmb : UEmb _ 𝕄) ((Rd (F := F) m).payload g r d) := by
  show BI.Storable upEmb ((decode g.2).elim iprop(emp) fun k => pay m g.1.1 k d)
  cases decode g.2 with
  | none => show BI.Storable upEmb (iprop(emp) : sProp 𝕄); infer_instance
  | some k => exact pay_storable m g.1.1 k d

theorem duties_eq (c : Dev nD) (k : Cl) : (Rd (F := F) m).duties (kc c k) 0 = dut k := by
  dsimp only [Rd]
  rw [if_pos ⟨rfl, rfl⟩]
  show (decode (csem k)).elim ∅ dut = _
  rw [decode_csem]; rfl
theorem duties_later (g : GSem nD τ sig) (r : ℕ) (h : 1 ≤ r) : (Rd (F := F) m).duties g r = ∅ :=
  if_neg fun h' => by omega
theorem amount_eq (c : Dev nD) (k : Cl) (d : Fin 7) : (Rd (F := F) m).amount (kc c k) 0 d = amt k := by
  show (decode (csem k)).elim 1 amt = _
  rw [decode_csem]; rfl
theorem payload_eq (c : Dev nD) (k : Cl) (d : Fin 7) : (Rd (F := F) m).payload (kc c k) 0 d = pay m c k d := by
  show (decode (csem k)).elim iprop(emp) (fun k => pay m c k d) = _
  rw [decode_csem]; rfl

/-- The signal to the partner of step `s` hands it this device's receive slot. -/
theorem payload_peer_bar (c : Dev nD) (s : Fin 7) :
    (Rd (F := F) m).payload (kc (peer c s) Cl.bar) 0 s = any c (rSlot s) := by
  rw [payload_eq]
  show any (peer (peer c s) s) (rSlot s) = _
  rw [peer_peer]
/-- The landing on the partner of step `s` hands it the tile computed here. -/
theorem payload_peer_rcv (c : Dev nD) (s : Fin 7) :
    (Rd (F := F) m).payload (kc (peer c s) (Cl.rcv s)) 0 0 = owns (peer c s : Thread nD τ) (rSlot s) fullShare (tileAt m c s) := by
  rw [payload_eq m (peer c s) (Cl.rcv s)]
  show owns _ _ _ (tileAt m (peer (peer c s) s) s) = _
  rw [peer_peer]

theorem mem_dut (o : Ow) : (0 : Fin 7) ∈ dut (.inr o) := Finset.mem_singleton_self _

theorem expect_bar (c : Dev nD) : (Rd (F := F) m).expect (kc c Cl.bar) 0 = 7 := by
  unfold Schedule.expect Schedule.amountOf
  rw [duties_eq, Finset.sum_congr rfl fun d _ => amount_eq m c Cl.bar d]
  rfl
theorem expect_own (c : Dev nD) (o : Ow) : (Rd (F := F) m).expect (kc c (.inr o)) 0 = amt (.inr o) := by
  unfold Schedule.expect Schedule.amountOf
  rw [duties_eq, show dut (.inr o) = {0} from rfl, Finset.sum_singleton, amount_eq]

theorem rest_bar (c : Dev nD) :
    bigSep ((Rd (F := F) m).duties (kc c Cl.bar) 0 \ ∅) (fun d => (Rd (F := F) m).payload (kc c Cl.bar) 0 d)
      = bigSep Finset.univ fun d => any (peer c d) (rSlot d) := by
  rw [Finset.sdiff_empty, duties_eq]
  exact bigSep_congr fun d _ => payload_eq m c Cl.bar d
theorem rest_own (c : Dev nD) (o : Ow) :
    bigSep ((Rd (F := F) m).duties (kc c (.inr o)) 0 \ ∅) (fun d => (Rd (F := F) m).payload (kc c (.inr o)) 0 d)
      = pay m c (.inr o) 0 := by
  rw [Finset.sdiff_empty, duties_eq, show dut (.inr o) = {0} from rfl, bigSep_singleton, payload_eq]

/-! ## What a core owes, and the levels -/

/-- What device `c` still owes the receive cells of its partners at the steps of a list. -/
def oweR (c : Dev nD) (l : List (Fin 7)) : CellTallies nD τ sig Unit :=
  (l.map fun s => tallyAt (kc (peer c s) (Cl.rcv s)) () (amt (Cl.rcv s))).sum
/-- What it still owes the barrier cells of the other devices in a list. -/
def oweB (c : Dev nD) (l : List (Dev nD)) : CellTallies nD τ sig Unit :=
  (l.map fun j => if j = c then 0 else tallyAt (kc j Cl.bar) () 1).sum

abbrev steps : List (Fin 7) := [0, 1, 2, 3, 4, 5, 6]
abbrev devs : List (Dev nD) := [0, 1, 2, 3, 4, 5, 6, 7]

/-- What it owes at launch. -/
def O₀ (c : Dev nD) : CellTallies nD τ sig Unit := oweR c steps + oweB c devs

theorem oweR_cons (c : Dev nD) (s : Fin 7) (l : List (Fin 7)) :
    oweR c (s :: l) = oweR c l + tallyAt (kc (peer c s) (Cl.rcv s)) () (amt (Cl.rcv s)) := by
  unfold oweR; rw [List.map_cons, List.sum_cons, add_comm]
theorem oweR_nil (c : Dev nD) : oweR c [] = 0 := rfl
theorem oweB_self (c : Dev nD) (l : List (Dev nD)) : oweB c (c :: l) = oweB c l := by
  unfold oweB; rw [List.map_cons, List.sum_cons, if_pos rfl, zero_add]
theorem oweB_cons (c j : Dev nD) (h : j ≠ c) (l : List (Dev nD)) :
    oweB c (j :: l) = oweB c l + tallyAt (kc j Cl.bar) () 1 := by
  unfold oweB; rw [List.map_cons, List.sum_cons, if_neg h, add_comm]
theorem oweB_nil (c : Dev nD) : oweB c [] = 0 := rfl

def L (g : GSem nD τ sig) : Finset Unit := if g.1.2 = .tc then {()} else ∅
/-- The level of a cell: a receive cell's is above a barrier cell's, and that above every other's. -/
def clv : Cl → ℕ
  | .inl _ => 1
  | .inr (.inr (.inr (.inr (.inr (.inr _))))) => 2
  | _ => 0
def lv (g : GSem nD τ sig) (_ : Unit) : ℕ := (decode g.2).elim 0 clv

theorem L_of_ne (g : GSem nD τ sig) (h : g.1.2 ≠ .tc) : L g = ∅ := if_neg h
theorem L_tc (c : Dev nD) (sm : SemLoc sig) : L ((c : Thread nD τ), sm) = {()} := if_pos rfl
theorem lv_kc (c : Dev nD) (k : Cl) : lv (kc c k) () = clv k := by
  show (decode (csem k)).elim 0 clv = _
  rw [decode_csem]; rfl

/-- What is owed to receive cells is owed to receive cells. -/
theorem oweR_pos {c : Dev nD} {l : List (Fin 7)} {g : GSem nD τ sig} {u : Unit} (h : 0 < oweR c l g u) :
    ∃ s, g = kc (peer c s) (Cl.rcv s) := by
  induction l with
  | nil => exact absurd h (Nat.lt_irrefl 0)
  | cons s l ih =>
    rw [oweR_cons, Pi.add_apply, Finsupp.add_apply, tallyAt_apply] at h
    by_cases hg : g = kc (peer c s) (Cl.rcv s) ∧ u = ()
    · exact ⟨s, hg.1⟩
    · rw [if_neg hg, add_zero] at h; exact ih h

theorem oweB_pos {c : Dev nD} {l : List (Dev nD)} {g : GSem nD τ sig} {u : Unit} (h : 0 < oweB c l g u) :
    ∃ j, g = kc j Cl.bar := by
  induction l with
  | nil => exact absurd h (Nat.lt_irrefl 0)
  | cons j l ih =>
    by_cases hj : j = c
    · subst hj; rw [oweB_self] at h; exact ih h
    · rw [oweB_cons c j hj, Pi.add_apply, Finsupp.add_apply, tallyAt_apply] at h
      by_cases hg : g = kc j Cl.bar ∧ u = ()
      · exact ⟨j, hg.1⟩
      · rw [if_neg hg, add_zero] at h; exact ih h

/-- A core may wait on any cell below the receive cells while it owes only to receive cells. -/
theorem mayWait_low (c : Dev nD) (k : Cl) (hk : clv k ≤ 1) (l : List (Fin 7)) :
    (levAts L lv : sProp 𝕄) ⊢ MayWait (c : Thread nD τ) (csem k) () (oweR c l) :=
  MayOwe.of_cut (L := L) (lev := lv) 1
    (fun p hp => by rw [Finset.mem_singleton.mp hp, L_tc]; exact Finset.mem_singleton_self _)
    (fun g u hg => by obtain ⟨s, rfl⟩ := oweR_pos hg; rw [L_tc]; exact Finset.mem_singleton_self _)
    (fun p hp => by rw [Finset.mem_singleton.mp hp]; exact (lv_kc c k).trans_le hk)
    (fun g u hg => by obtain ⟨s, rfl⟩ := oweR_pos hg; rw [lv_kc (peer c s) (Cl.rcv s)]; exact Nat.lt_succ_self 1)

end Cert.KernelIdeal.Pf

end
-- ==== Proof.KernelIdeal.Split.lean ====
/- The buffers and arrays, held piece by piece: the slots of the three tile buffers, the row blocks of `w` and of the
   result; and the offsets the kernel computes, in closed form. -/
module

public import proofs.«01_k».proof.Proof.KernelIdeal.Proto
public import Idealize.ShloMosaic.Lib.Ring
public import Idealize.ShloMosaic.Lib.Memref

@[expose] public section

set_option synthInstance.maxSize 4096

noncomputable section

namespace Cert.KernelIdeal.Pf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ UU ℕ

/-! ## A memref held at some contents -/

section Any

variable {sp : Space} {s : Shape} {e : EltTy} (c : Dev nD) (r : Memref sig .tc sp s e)

theorem any_intro (X : s.Idx → Elt F e) : owns (c : Thread nD τ) r fullShare X ⊢ (any c r : sProp 𝕄) := by
  unfold any; iintro H; iexists X; iexact H

theorem any_elim : (any c r : sProp 𝕄) ⊢ iprop(∃ X, owns (c : Thread nD τ) r fullShare X) := by
  unfold any; iintro H; iexact H

/-- Some contents read through the memref are some contents of its elements. -/
theorem any_eq : (any c r : sProp 𝕄) = iprop(∃ f : Buf (Elt F) (r.view.loc (c : Thread nD τ)), r.view.loc (c : Thread nD τ) ↦[r.view.set]{fullShare} f) := by
  have h₁ : (any c r : sProp 𝕄) ⊢ iprop(∃ f : Buf (Elt F) (r.view.loc (c : Thread nD τ)), r.view.loc (c : Thread nD τ) ↦[r.view.set]{fullShare} f) := by
    unfold any owns
    iintro ⟨%X, %f, -, H⟩
    iexists f; iexact H
  have h₂ : iprop(∃ f : Buf (Elt F) (r.view.loc (c : Thread nD τ)), r.view.loc (c : Thread nD τ) ↦[r.view.set]{fullShare} f) ⊢ (any c r : sProp 𝕄) := by
    iintro ⟨%f, H⟩
    iapply any_intro c r (r.view.read (Elt F) f)
    iapply owns_intro; iexact H
  exact BI.equiv_iff.mp ⟨h₁, h₂⟩

theorem any_squeeze (s' : Shape) (h : s.Squeezes s') : (any c (r.squeeze s' h) : sProp 𝕄) = any c r := by
  rw [any_eq, any_eq]
  show iprop(∃ f : Buf (Elt F) (r.view.loc (c : Thread nD τ)), r.view.loc (c : Thread nD τ) ↦[(r.view.reshape s' h.numel_eq).set]{fullShare} f) = _
  rw [View.set_reshape]

/-- A slice through a unit rectangle depends on its offsets only. -/
theorem owns_off {off off' size : Fin s.rank → ℕ} (h : off = off') (i : ∀ a, off a + size a ≤ s.size a)
    (i' : ∀ a, off' a + size a ≤ s.size a) (X : (⟨s.rank, size⟩ : Shape).Idx → Elt F e) :
    (owns (c : Thread nD τ) (r.slice (Rect.unit off size i) fun _ => rfl) fullShare X : sProp 𝕄)
      = owns (c : Thread nD τ) (r.slice (Rect.unit off' size i') fun _ => rfl) fullShare X := by
  subst h; rfl

variable {T : Type} [Fintype T] [DecidableEq T] (R : T → Rect s) (hr : ∀ t a, (R t).stride a = 1)
  (hd : ∀ t t', t ≠ t' → Disjoint (R t).set (R t').set)
  (hcov : (Finset.univ : Finset T).biUnion (fun t => (R t).set) = Finset.univ)

include hd hcov in
theorem any_pieces : (any c r : sProp 𝕄) ⊢ bigSep Finset.univ fun t => any c (r.slice (R t) (hr t)) := by
  have h (X : s.Idx → Elt F e) : owns (c : Thread nD τ) r fullShare X ⊢ (bigSep Finset.univ fun t => any c (r.slice (R t) (hr t)) : sProp 𝕄) :=
    (owns_rects (c : Thread nD τ) r fullShare R hr hd hcov X).trans
      (bigSep_mono fun t _ => any_intro c (r.slice (R t) (hr t)) fun j => X ((R t).emb j))
  rw [any]
  iintro ⟨%X, H⟩
  iapply (h X); iexact H

end Any

theorem any_whole (c : Dev nD) (b : Ref sig .tc) :
    (any c (Memref.whole b) : sProp 𝕄) = iprop(∃ f : Buf (Elt F) ((c : Thread nD τ).loc b), ((c : Thread nD τ).loc b) ↦{fullShare} f) := by
  rw [any_eq]; simp only [Memref.view_whole, View.set_whole]

/-- The pieces of a whole buffer, each at some contents, are the buffer at some contents. -/
theorem any_join (c : Dev nD) (b : Ref sig .tc) {T : Type} [Fintype T] [DecidableEq T] (R : T → Rect b.ty.shape)
    (hr : ∀ t a, (R t).stride a = 1) (hd : ∀ t t', t ≠ t' → Disjoint (R t).set (R t').set)
    (hcov : (Finset.univ : Finset T).biUnion (fun t => (R t).set) = Finset.univ) :
    (bigSep Finset.univ fun t => any c ((Memref.whole b).slice (R t) (hr t)) : sProp 𝕄) ⊢ any c (Memref.whole b) := by
  rw [any_whole]
  refine (Entails.of_eq (bigSep_congr fun t _ => any_eq c ((Memref.whole b).slice (R t) (hr t)))).trans ?_
  have hs (t : T) : ((Memref.whole b).slice (R t) (hr t)).view.set = (R t).set := View.set_slice_whole b (R t)
  have h := Ring.pointsTo_blocks_join_exists (Ix := Unit) (Name := ℕ) (U := UU) (Lvl := ℕ) (Val := Elt F)
    (ℓ := (c : Thread nD τ).loc b) (q := fullShare) (fun t => (R t).set) hd hcov (fun _ => Classical.arbitrary _)
  refine (Entails.of_eq (bigSep_congr fun t _ => ?_)).trans h
  rw [hs]

/-! ## The families of pieces -/

theorem slot7_disj (s s' : Fin 7) (h : s ≠ s') : Disjoint (slot7 s).set (slot7 s').set :=
  Ring.lead_disjoint (s := S7x128x128) 0 1 (fun s => ![s.val, 0, 0]) S1x128x128.size inbSlot7 (fun s => (Nat.one_mul _).symm) rfl s s' h
theorem slot7_cover : (Finset.univ : Finset (Fin 7)).biUnion (fun s => (slot7 s).set) = Finset.univ :=
  Ring.lead_cover (s := S7x128x128) 0 1 (fun s : Fin 7 => ![s.val, 0, 0]) S1x128x128.size inbSlot7 (fun s => (Nat.one_mul _).symm)
    (by decide) rfl (by decide) rfl
theorem slot8_disj (s s' : Fin 8) (h : s ≠ s') : Disjoint (slot8 s).set (slot8 s').set :=
  Ring.lead_disjoint (s := S8x128x128) 0 1 (fun s => ![s.val, 0, 0]) S1x128x128.size inbSlot8 (fun s => (Nat.one_mul _).symm) rfl s s' h
theorem slot8_cover : (Finset.univ : Finset (Fin 8)).biUnion (fun s => (slot8 s).set) = Finset.univ :=
  Ring.lead_cover (s := S8x128x128) 0 1 (fun s : Fin 8 => ![s.val, 0, 0]) S1x128x128.size inbSlot8 (fun s => (Nat.one_mul _).symm)
    (by decide) rfl (by decide) rfl
theorem rows_disj (r r' : Fin 8) (h : r ≠ r') : Disjoint (rows r).set (rows r').set :=
  Ring.lead_disjoint (s := S1024x1024) 0 128 (fun r => ![128 * r.val, 0]) S128x1024.size inbRows (fun _ => rfl) rfl r r' h
theorem rows_cover : (Finset.univ : Finset (Fin 8)).biUnion (fun r => (rows r).set) = Finset.univ :=
  Ring.lead_cover (s := S1024x1024) 0 128 (fun r : Fin 8 => ![128 * r.val, 0]) S128x1024.size inbRows (fun _ => rfl)
    (by decide) rfl (by decide) rfl

theorem inbY (j : Fin 8) : ∀ a, (![128 * j.val, 0] : Fin 2 → Nat) a + S128x128.size a ≤ S1024x128.size a := by
  revert j; decide
abbrev yRect (j : Fin 8) : Rect S1024x128 := Rect.unit (s := S1024x128) ![128 * j.val, 0] S128x128.size (inbY j)
/-- Row block `j` of the result. -/
abbrev yRows (j : Fin 8) : Memref sig .tc .hbm S128x128 .f32 := yOut.slice (yRect j) (fun _ => rfl)
theorem yRect_disj (r r' : Fin 8) (h : r ≠ r') : Disjoint (yRect r).set (yRect r').set :=
  Ring.lead_disjoint (s := S1024x128) 0 128 (fun r => ![128 * r.val, 0]) S128x128.size inbY (fun _ => rfl) rfl r r' h
theorem yRect_cover : (Finset.univ : Finset (Fin 8)).biUnion (fun r => (yRect r).set) = Finset.univ :=
  Ring.lead_cover (s := S1024x128) 0 128 (fun r : Fin 8 => ![128 * r.val, 0]) S128x128.size inbY (fun _ => rfl)
    (by decide) rfl (by decide) rfl

/-! ## The slots -/

theorem send_split (c : Dev nD) : (any c sBuf : sProp 𝕄) ⊢ bigSep Finset.univ fun s => any c (sSlot s) :=
  (any_pieces c sBuf slot7 (fun _ _ => rfl) slot7_disj slot7_cover).trans
    (Entails.of_eq (bigSep_congr fun s _ => (any_squeeze c _ _ _).symm))
theorem send_join (c : Dev nD) : (bigSep Finset.univ fun s => any c (sSlot s) : sProp 𝕄) ⊢ any c sBuf :=
  (Entails.of_eq (bigSep_congr fun s _ => any_squeeze c _ _ _)).trans
    (any_join c cc0_scratch2 slot7 (fun _ _ => rfl) slot7_disj slot7_cover)
theorem recv_split (c : Dev nD) : (any c rBuf : sProp 𝕄) ⊢ bigSep Finset.univ fun s => any c (rSlot s) :=
  (any_pieces c rBuf slot7 (fun _ _ => rfl) slot7_disj slot7_cover).trans
    (Entails.of_eq (bigSep_congr fun s _ => (any_squeeze c _ _ _).symm))
theorem recv_join (c : Dev nD) : (bigSep Finset.univ fun s => any c (rSlot s) : sProp 𝕄) ⊢ any c rBuf :=
  (Entails.of_eq (bigSep_congr fun s _ => any_squeeze c _ _ _)).trans
    (any_join c cc0_scratch3 slot7 (fun _ _ => rfl) slot7_disj slot7_cover)
theorem out_split (c : Dev nD) : (any c oBuf : sProp 𝕄) ⊢ bigSep Finset.univ fun s => any c (oSlot s) :=
  (any_pieces c oBuf slot8 (fun _ _ => rfl) slot8_disj slot8_cover).trans
    (Entails.of_eq (bigSep_congr fun s _ => (any_squeeze c _ _ _).symm))
theorem out_join (c : Dev nD) : (bigSep Finset.univ fun s => any c (oSlot s) : sProp 𝕄) ⊢ any c oBuf :=
  (Entails.of_eq (bigSep_congr fun s _ => any_squeeze c _ _ _)).trans
    (any_join c cc0_scratch4 slot8 (fun _ _ => rfl) slot8_disj slot8_cover)

/-! ## The row blocks -/

section Rows
variable (c : Dev nD) (m : (ℓ : Loc nD τ sig) → Buf (Elt F) ℓ)

theorem wIn_split : (owns (c : Thread nD τ) wIn fullShare (wVal m c) : sProp 𝕄)
    ⊢ bigSep Finset.univ fun r => owns (c : Thread nD τ) (wRowsIn r) fullShare (wBlk m c r) :=
  owns_rects (c : Thread nD τ) wIn fullShare rows (fun _ _ => rfl) rows_disj rows_cover (wVal m c)
theorem wIn_join : (bigSep Finset.univ fun r => owns (c : Thread nD τ) (wRowsIn r) fullShare (wBlk m c r) : sProp 𝕄)
    ⊢ owns (c : Thread nD τ) wIn fullShare (wVal m c) :=
  owns_of_rects (c : Thread nD τ) wIn fullShare rows (fun _ _ => rfl) rows_disj rows_cover (wVal m c)
theorem wBuf_split : (any c wBuf : sProp 𝕄) ⊢ bigSep Finset.univ fun r => any c (wRows r) :=
  any_pieces c wBuf rows (fun _ _ => rfl) rows_disj rows_cover
theorem wBuf_join : (bigSep Finset.univ fun r => owns (c : Thread nD τ) (wRows r) fullShare (wBlk m c r) : sProp 𝕄)
    ⊢ owns (c : Thread nD τ) wBuf fullShare (wVal m c) :=
  owns_of_rects (c : Thread nD τ) wBuf fullShare rows (fun _ _ => rfl) rows_disj rows_cover (wVal m c)

end Rows

theorem off1_eq (c : Dev nD) (s : Fin 7) : k0_off1 c (BitVec.ofNat 32 (1 + (offP s).val)) = ![0, 128 * (peer c s).val] := by
  revert c s; decide +kernel
theorem off2_eq (c : Dev nD) : k0_off2 c = ![0, 128 * c.val] := by revert c; decide +kernel
theorem off3_eq (c : Dev nD) : k0_off3 c = ![128 * c.val, 0] := by revert c; decide +kernel
theorem off4_eq (c : Dev nD) (s : Fin 7) : k0_off4 c (BitVec.ofNat 32 (1 + (offP s).val)) = ![128 * (peer c s).val, 0] := by
  revert c s; decide +kernel

/-- The rows a received tile fills are the sender's row block. -/
theorem tileOut_owns (c : Dev nD) (s : Fin 7) (X : Vec F S128x128 .f32) :
    (owns (c : Thread nD τ) (tileOut c s) fullShare X : sProp 𝕄) = owns (c : Thread nD τ) (yRows (peer c s)) fullShare X :=
  owns_off c yOut (off4_eq c s) _ _ X
/-- The rows the own tile fills are the device's own row block. -/
theorem ownOut_owns (c : Dev nD) (X : Vec F S128x128 .f32) :
    (owns (c : Thread nD τ) (ownOut c) fullShare X : sProp 𝕄) = owns (c : Thread nD τ) (yRows c) fullShare X :=
  owns_off c yOut (off3_eq c) _ _ X

/-- The result held whole is the own tile's rows and, per step, the received tile's rows. -/
theorem y_split (c : Dev nD) : (any c yOut : sProp 𝕄)
    ⊢ iprop(any c (ownOut c) ∗ bigSep Finset.univ fun s : Fin 7 => any c (tileOut c s)) := by
  refine (any_pieces c yOut yRect (fun _ _ => rfl) yRect_disj yRect_cover).trans ?_
  refine (Entails.of_eq (bigSep_peers c fun j => any c (yRows j))).trans ?_
  refine (Entails.of_eq ?_)
  unfold any
  rw [bigSep_congr fun s (_ : s ∈ Finset.univ) => (congrArg BIBase.exists (funext fun X => tileOut_owns (F := F) c s X)).symm]
  rw [(congrArg BIBase.exists (funext fun X => ownOut_owns (F := F) c X))]

end Cert.KernelIdeal.Pf

end
-- ==== Proof.KernelIdeal.Rules.lean ====
/- One rule per kind of step the body takes, at a symbolic device and a symbolic cell: a copy within the device, a wait on
   a cell, a signal, a send, a load and a store through a piece of a buffer; and the rule for a list of steps. -/
module

public import proofs.«01_k».proof.Proof.KernelIdeal.Split
public import Idealize.ShloMosaic.Lib.Pipeline.Value

@[expose] public section

set_option synthInstance.maxSize 4096

noncomputable section

namespace Cert.KernelIdeal.Pf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (K : Dev nD × Cl → ℕ)

/-- The weakest precondition of a program of device `c`'s core. -/
abbrev WP {α : Type} (c : Dev nD) (p : P F α) (Q : α → sProp 𝕄) : sProp 𝕄 :=
  wp frame (wpE (defs₀ (F := F)) 𝒱₀ (c : Thread nD τ) none) Set.univ p Q

/-! ## What is known throughout -/

/-- Every cell's invariant, and that each cell's round is open. -/
def recs : sProp 𝕄 := bigSep Finset.univ fun ck : Dev nD × Cl =>
  iprop(cellInv ER (Rd (F := F) m) (K ck) (kc ck.1 ck.2) ∗ reached ER (kc ck.1 ck.2) 0)

instance recs_persistent : BI.Persistent (recs m K) := by unfold recs; infer_instance

theorem rec_at (c : Dev nD) (k : Cl) :
    recs m K ⊢ iprop(cellInv ER (Rd (F := F) m) (K (c, k)) (kc c k) ∗ reached ER (kc c k) 0) :=
  bigSep_elim (Finset.mem_univ (c, k))

/-- The state between steps: what is known throughout, the levels, and what the core still owes. -/
def st (c : Dev nD) (O : CellTallies nD τ sig Unit) : sProp 𝕄 :=
  iprop(recs m K ∗ levAts L lv ∗ ∃ W, owes (c : Thread nD τ) O W)

/-- The duty token of an own cell, its credit, and the core's position on a cell before and after its round. -/
abbrev tok (c : Dev nD) (k : Cl) (d : Fin 7) : sProp 𝕄 := dutyTok ER (kc c k) 0 d
abbrev crd (c : Dev nD) (k : Cl) (n : ℕ) : sProp 𝕄 := cred (tallyAt (kc c k) () n)
abbrev at0 (c : Dev nD) (k : Cl) : sProp 𝕄 := atPos ER (kc c k) 0 ∅ 0
abbrev at1 (c : Dev nD) (k : Cl) : sProp 𝕄 := atPos ER (kc c k) (0 + 1) ∅ 0

/-! ## A list of steps -/

theorem list_cons {ι : Type} (i : ι) (l : List ι) (A : ι → sProp 𝕄) : bigSepL (i :: l) A = iprop(A i ∗ bigSepL l A) :=
  bigSepL_cons i l A

theorem wp_each {ι : Type} (c : Dev nD) (f : ι → P F PUnit) (R : List ι → sProp 𝕄) (A B : ι → sProp 𝕄)
    (h : ∀ (i : ι) (l : List ι) (k : PUnit → P F PUnit) (Q : PUnit → sProp 𝕄),
      iprop(R (i :: l) ∗ A i) ⊢ iprop(((R l ∗ B i) -∗ WP c (k ⟨⟩) Q) -∗ WP c (f i >>= k) Q)) :
    ∀ (l : List ι) (k : PUnit → P F PUnit) (Q : PUnit → sProp 𝕄),
      iprop(R l ∗ bigSepL l A) ⊢ iprop(((R [] ∗ bigSepL l B) -∗ WP c (k ⟨⟩) Q) -∗ WP c (each f l >>= k) Q)
  | [], k, Q => by
    rw [show (each f [] >>= k) = k ⟨⟩ from pure_bind _ _]
    iintro H Hk; iapply Hk; iexact H
  | i :: l, k, Q => by
    rw [show (each f (i :: l) >>= k) = f i >>= fun _ => each f l >>= k from bind_assoc _ _ _, list_cons, list_cons]
    iintro ⟨HR, HA, HL⟩ Hk
    iapply (h i l (fun _ => each f l >>= k) Q) $$ [HR HA]
    · isplitl [HR] <;> iassumption
    iintro ⟨HR, HB⟩
    iapply (wp_each c f R A B h l k Q) $$ [HR HL]
    · isplitl [HR] <;> iassumption
    iintro ⟨HR, HL⟩
    iapply Hk
    isplitl [HR]; · iexact HR
    isplitl [HB] <;> iassumption

/-! ## Copies, waits and signals -/

section Steps

variable (c : Dev nD)

/-- What a copy leaves: the destination reads what the source reads. -/
theorem copied {sp : Space} {s : Shape} {e : EltTy} (c' : Dev nD) (dst : Memref sig .tc sp s e)
    (fd : Buf (Elt F) (dst.view.loc (c' : Thread nD τ))) (X : s.Idx → Elt F e) :
    (dst.view.loc (c' : Thread nD τ) ↦[dst.view.set]{fullShare} dst.view.write (Elt F) fd X Finset.univ)
      ⊢ (owns (c' : Thread nD τ) dst fullShare X : sProp 𝕄) := by
  have h := owns_intro (Ix := Unit) (Name := ℕ) (U := UU) (Lvl := ℕ) (c' : Thread nD τ) dst fullShare (dst.view.write (Elt F) fd X Finset.univ)
  rwa [View.read_write_univ] at h

/-- A copy within the device, paying the duty of its cell. -/
theorem copy_step {α : Type} {k : PUnit → P F α} {Q : α → sProp 𝕄} (o : Ow) {sp sp' : Space} {s : Shape} {e : EltTy} {src : Memref sig .tc sp s e} {dst : Memref sig .tc sp' s e}
    {hsrc : src.view.WordExact} {hdst : dst.view.WordExact} {hsem : DmaTarget.Typed (nD := nD) sp (osem o) (.here (τ := τ) (p := .tc) dst)}
    (X : s.Idx → Elt F e) (hN : dst.view.amount (osem o) = amt (.inr o))
    (hpay : iprop(owns (c : Thread nD τ) dst fullShare X ∗ owns (c : Thread nD τ) src fullShare X) ⊢ pay m c (.inr o) 0) :
    iprop(recs m K ∗ owns (c : Thread nD τ) src fullShare X ∗ any c dst ∗ tok c (.inr o) 0)
      ⊢ iprop((crd c (.inr o) (amt (.inr o)) -∗ WP c (k ⟨⟩) Q)
          -∗ WP c (.op (.enqueueDma src (.here (p := .tc) dst) (osem o) hsrc hdst hsem) k) Q) := by
  rw [any_eq]; unfold owns
  iintro ⟨#HR, ⟨%f, %hf, Hs⟩, ⟨%g, Hd⟩, Ht⟩ Hk
  ihave #HI := (rec_at m K c (.inr o)) $$ HR
  icases HI with ⟨#HI, #Hr⟩
  iapply (Rounds.wp_copy_pointsTo 𝒱₀ ER (Rd m) (c : Thread nD τ) none (κ := K (c, .inr o)) (r := 0) (d := 0) (fs := f) (fd := g)
    (by rw [duties_eq m c (.inr o)]; exact mem_dut o) () (amt (.inr o)) hN (amount_eq m c (.inr o) 0)
    (by
      rw [payload_eq m c (.inr o)]
      refine BI.Entails.trans ?_ hpay
      rw [hf]
      have h₂ := owns_intro (Ix := Unit) (Name := ℕ) (U := UU) (Lvl := ℕ) (c : Thread nD τ) src fullShare f
      rw [hf] at h₂
      exact BIClass.sep_mono (copied c dst g X) h₂)) $$ [Hs Hd Ht]
  · isplitr; · iexact HI
    isplitl [Hs]; · iexact Hs
    isplitl [Hd]; · iexact Hd
    isplitl [Ht]; · iexact Ht
    iexact Hr
  iexact Hk

/-- A wait for the whole round of a cell: what its duties hand over. -/
theorem wait_step {α : Type} {k : PUnit → P F α} {Q : α → sProp 𝕄} (k₀ : Cl) {w : TpuEff nD τ sig (Elt F) Λ₀ .tc PUnit} {n : ℕ}
    (hw : ∀ Kt : PUnit → sProp 𝕄, wpE (defs₀ (F := F)) 𝒱₀ (c : Thread nD τ) none Set.univ w Kt = waitSpec (c : Thread nD τ) Set.univ (csem k₀) n Kt)
    (hn : n = (Rd m).expect (kc c k₀) 0) (O : CellTallies nD τ sig Unit)
    (hO : (levAts L lv : sProp 𝕄) ⊢ MayWait (c : Thread nD τ) (csem k₀) () O) :
    iprop(st m K c O ∗ crd c k₀ n ∗ at0 c k₀)
      ⊢ iprop(((st m K c O ∗ at1 c k₀ ∗ bigSep ((Rd m).duties (kc c k₀) 0 \ ∅) fun d => (Rd m).payload (kc c k₀) 0 d) -∗ WP c (k ⟨⟩) Q)
          -∗ WP c (.op w k) Q) := by
  unfold st
  iintro ⟨⟨#HR, #Hlev, ⟨%W, HO⟩⟩, Hc, Hat⟩ Hk
  ihave #HI := (rec_at m K c k₀) $$ HR
  icases HI with ⟨#HI, #Hr⟩
  iapply (Rounds.wp_wait_rest_token 𝒱₀ ER (Rd m) (c : Thread nD τ) none (κ := K (c, k₀)) hw (Set.mem_univ _) () (O := O) (W := W)
    (R := 0) (m := 0) (T := ∅) ((Nat.zero_add n).trans hn)) $$ [Hc HO Hat]
  · isplitr; · iexact HI
    isplitl [Hc]; · iexact Hc
    isplitl [HO]; · iexact HO
    isplitr; · iapply hO; iexact Hlev
    iexact Hat
  iintro ⟨HO, Hat, -, Hpay⟩
  iapply Hk
  isplitl [HO]
  · isplitr; · iexact HR
    isplitr; · iexact Hlev
    iexists _; iexact HO
  isplitl [Hat] <;> iassumption

/-- The same on an own cell. -/
theorem wait_own {α : Type} {k : PUnit → P F α} {Q : α → sProp 𝕄} (o : Ow) {w : TpuEff nD τ sig (Elt F) Λ₀ .tc PUnit} {n : ℕ}
    (hw : ∀ Kt : PUnit → sProp 𝕄, wpE (defs₀ (F := F)) 𝒱₀ (c : Thread nD τ) none Set.univ w Kt = waitSpec (c : Thread nD τ) Set.univ (osem o) n Kt)
    (hn : n = amt (.inr o)) (O : CellTallies nD τ sig Unit)
    (hO : (levAts L lv : sProp 𝕄) ⊢ MayWait (c : Thread nD τ) (osem o) () O) :
    iprop(st m K c O ∗ crd c (.inr o) (amt (.inr o)) ∗ at0 c (.inr o))
      ⊢ iprop(((st m K c O ∗ at1 c (.inr o) ∗ pay m c (.inr o) 0) -∗ WP c (k ⟨⟩) Q) -∗ WP c (.op w k) Q) := by
  have h := wait_step m K c (k := k) (Q := Q) (.inr o) hw (hn.trans (expect_own m c o).symm) O hO
  rw [rest_own, hn] at h
  exact h

/-- A tile in the result array counts as many units as any other. -/
theorem out_amt (v : View sig .tc .hbm S128x128 .f32) (h : v.buf = yOut.view.buf) (j : Fin 8) : v.dmaCredit = (oSlot j).view.dmaCredit := by
  unfold View.dmaCredit; rw [h]

/-- A core that owes nothing may wait on any cell. -/
theorem mayWait_none (k₀ : Cl) : (levAts L lv : sProp 𝕄) ⊢ MayWait (c : Thread nD τ) (csem k₀) () 0 := by
  rw [MayWait_zero]; iintro -; iempintro

/-- A signal to the partner of step `s`, handing it receive slot `s`. -/
theorem signal_step {α : Type} {k : PUnit → P F α} {Q : α → sProp 𝕄} (s : Fin 7) (O : CellTallies nD τ sig Unit) (n : ℕ) (hn : n = 1) :
    iprop(st m K c (O + tallyAt (kc (peer c s) Cl.bar) () 1) ∗ any c (rSlot s) ∗ tok (peer c s) Cl.bar s)
      ⊢ iprop((st m K c O -∗ WP c (k ⟨⟩) Q) -∗ WP c (.op (.semSignal (peer c s : Thread nD τ) barSem n) k) Q) := by
  subst hn
  unfold st
  iintro ⟨⟨#HR, #Hlev, ⟨%W, HO⟩⟩, Hs, Ht⟩ Hk
  ihave #HI := (rec_at m K (peer c s) Cl.bar) $$ HR
  icases HI with ⟨#HI, #Hr⟩
  iapply (Rounds.wp_signal 𝒱₀ ER (Rd m) (c : Thread nD τ) none (dst := (peer c s : Thread nD τ)) (κ := K (peer c s, Cl.bar)) (d := s) (r := 0)
    (by rw [duties_eq m (peer c s) Cl.bar]; exact Finset.mem_univ s) (amount_eq m (peer c s) Cl.bar s) () O rfl) $$ [HO Hs Ht]
  · isplitr; · iexact HI
    isplitl [HO]; · iexact HO
    isplitl [Ht]; · iexact Ht
    isplitl [Hs]
    · rw [payload_peer_bar]; iexact Hs
    iexact Hr
  iintro HO
  iapply Hk
  isplitr; · iexact HR
  isplitr; · iexact Hlev
  iexists _; iexact HO

/-- The send of step `s`: its tile goes to the partner's receive slot `s`. -/
theorem send_step {α : Type} {k : PUnit → P F α} {Q : α → sProp 𝕄} (s : Fin 7) (n : Dev nD) (hn : n = peer c s) {hsc : (rSlot s).view.ref.isScScratch = false}
    {hsrc : (sSlot s).view.WordExact} {hdst : (rSlot s).view.WordExact}
    {hsem : DmaTarget.Typed .vmem (.dma (rSem s)) (.remote (Dev.tc n : Thread nD τ) (rSlot s) (.dma (sSem s)) hsc)}
    (O : CellTallies nD τ sig Unit) :
    iprop(st m K c (O + tallyAt (kc (peer c s) (Cl.rcv s)) () (amt (Cl.rcv s)))
        ∗ owns (c : Thread nD τ) (sSlot s) fullShare (tileAt m c s) ∗ any (peer c s) (rSlot s)
        ∗ tok c (Cl.snd s) 0 ∗ tok (peer c s) (Cl.rcv s) 0)
      ⊢ iprop(((st m K c O ∗ crd c (Cl.snd s) (amt (Cl.snd s))) -∗ WP c (k ⟨⟩) Q)
          -∗ WP c (.op (.enqueueDma (sSlot s) (.remote (Dev.tc n : Thread nD τ) (rSlot s) (.dma (sSem s)) hsc) (.dma (rSem s)) hsrc hdst hsem) k) Q) := by
  subst hn
  rw [any_eq]; unfold st owns
  iintro ⟨⟨#HR, #Hlev, ⟨%W, HO⟩⟩, ⟨%f, %hf, Hs⟩, ⟨%g, Hd⟩, Ht, Ht'⟩ Hk
  ihave #HI := (rec_at m K c (Cl.snd s)) $$ HR
  icases HI with ⟨#HI, #Hr⟩
  ihave #HJ := (rec_at m K (peer c s) (Cl.rcv s)) $$ HR
  icases HJ with ⟨#HJ, #Hr'⟩
  iapply (Rounds.wp_send_pointsTo 𝒱₀ ER (Rd m) (c : Thread nD τ) none (κ₁ := K (c, Cl.snd s)) (κ₂ := K (peer c s, Cl.rcv s))
    (r₁ := 0) (r₂ := 0) (d₁ := 0) (d₂ := 0) (fd := g) (fs := f)
    (by rw [duties_eq m c (Cl.snd s)]; exact mem_dut _) (by rw [duties_eq m (peer c s) (Cl.rcv s)]; exact mem_dut _)
    () () (amt (Cl.rcv s)) rfl (amount_eq m c (Cl.snd s) 0) (amount_eq m (peer c s) (Cl.rcv s) 0) O rfl (W := W)
    (by
      rw [payload_eq m c (Cl.snd s)]
      exact (owns_intro (c : Thread nD τ) (sSlot s) fullShare f).trans (any_intro c (sSlot s) _))
    (by
      rw [payload_peer_rcv, hf]
      exact copied (peer c s) (rSlot s) g (tileAt m c s))) $$ [Hs Hd HO Ht Ht']
  · isplitr; · iexact HI
    isplitr; · iexact HJ
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [HO]
  · isplitr; · iexact HR
    isplitr; · iexact Hlev
    iexists _; iexact HO
  iexact Hc

end Steps

/-! ## Loads and stores -/

section Data

variable (c : Dev nD) {α : Type} {cs : CoreSpace} {s : Shape} {e : EltTy} (r : Memref sig .tc cs s e) (R : Rect s)
  (hR : ∀ a, R.stride a = 1)

/-- A load from a memref held whole. -/
theorem load_whole (X : s.Idx → Elt F e) {hl : r.view.LoadsAt R.toLoadRect} {k : (R.shape.Idx → Elt F e) → P F α} {Q : α → sProp 𝕄} :
    owns (c : Thread nD τ) r fullShare X
      ⊢ iprop((owns (c : Thread nD τ) r fullShare X -∗ WP c (k fun j => X (R.emb j)) Q) -∗ WP c (.op (.load r R.toLoadRect hl) k) Q) := by
  unfold owns
  iintro ⟨%f, %hf, H⟩ Hk
  subst hf
  iapply (wp_load 𝒱₀ (c : Thread nD τ) none Set.univ (m := r) (r := R.toLoadRect) (View.setOn_subset_set _ _)) $$ H
  iintro H
  iapply Hk
  iexists f; isplitr; · ipureintro; rfl
  iexact H

/-- A load of a piece, the piece held. -/
theorem load_piece (X : R.shape.Idx → Elt F e) {hl : r.view.LoadsAt R.toLoadRect} {k : (R.shape.Idx → Elt F e) → P F α} {Q : α → sProp 𝕄} :
    owns (c : Thread nD τ) (r.slice R hR) fullShare X
      ⊢ iprop((owns (c : Thread nD τ) (r.slice R hR) fullShare X -∗ WP c (k X) Q) -∗ WP c (.op (.load r R.toLoadRect hl) k) Q) := by
  unfold owns
  iintro ⟨%f, %hf, H⟩ Hk
  subst hf
  iapply (wp_load_rect 𝒱₀ (c : Thread nD τ) none Set.univ (m := r) (r := R) (S := (r.access R).set) subset_rfl) $$ H
  iintro H
  iapply Hk
  iexists f; isplitr; · ipureintro; rfl
  iexact H

/-- A store of a piece, the piece held at some contents. -/
theorem store_piece (w : R.shape.Idx → Elt F e) {hx : (r.access R).Stores Finset.univ}
    {hm : (Finset.univ : Finset R.shape.Idx) = Finset.univ ∨ ∀ a, R.stride a = 1} {k : PUnit → P F α} {Q : α → sProp 𝕄} :
    any c (r.slice R hR)
      ⊢ iprop((owns (c : Thread nD τ) (r.slice R hR) fullShare w -∗ WP c (k ⟨⟩) Q) -∗ WP c (.op (.store r R w Finset.univ hx hm) k) Q) := by
  rw [any_eq]
  iintro ⟨%f, H⟩ Hk
  iapply (wp_store 𝒱₀ (c : Thread nD τ) none Set.univ (m := r) (r := R) (Mk := Finset.univ) (S := (r.access R).set) subset_rfl) $$ H
  iintro H
  iapply Hk
  iapply (copied c (sp := cs) (r.slice R hR) f w)
  iexact H

end Data

/-- A memref with axes of size one dropped, held at a matrix, is the memref held at the matrix with the axes back. -/
theorem owns_squeeze {sp : Space} {s : Shape} {e : EltTy} (c : Dev nD) (r : Memref sig .tc sp s e) (s' : Shape) (h : s.Squeezes s')
    (h' : s'.ShapeCasts s) (v : s'.Idx → Elt F e) :
    (owns (c : Thread nD τ) (r.squeeze s' h) fullShare v : sProp 𝕄) = owns (c : Thread nD τ) r fullShare (shapeCast s v h') := by
  have hread (f : r.view.ty.Contents (Elt F)) : (r.squeeze s' h).view.read (Elt F) f = shapeCast s' (r.view.read (Elt F) f) h.numel_eq := rfl
  have hiff (f : r.view.ty.Contents (Elt F)) :
      ((r.squeeze s' h).view.read (Elt F) f = v) = (r.view.read (Elt F) f = shapeCast s v h') := by
    rw [hread]
    refine propext ⟨fun e => ?_, fun e => ?_⟩
    · rw [← e]; exact (shapeCast_shapeCast _ _ _).symm
    · rw [e]; exact shapeCast_shapeCast _ _ _
  unfold owns
  show iprop(∃ f : Buf (Elt F) (r.view.loc (c : Thread nD τ)), ⌜(r.squeeze s' h).view.read (Elt F) f = v⌝
    ∗ r.view.loc (c : Thread nD τ) ↦[(r.view.reshape s' h.numel_eq).set]{fullShare} f) = _
  rw [View.set_reshape]
  exact congrArg BIBase.exists (funext fun f => by rw [hiff])

end Cert.KernelIdeal.Pf

end
-- ==== Proof.KernelIdeal.StepsEq.lean ====
/- The kernel's printed body is the sequence of steps `prog`. The parts whose text holds a condition on the device's
   number are rewritten to the steps one by one; the other parts are those steps as they stand. -/
module

public import proofs.«01_k».proof.Proof.KernelIdeal.Steps
public import proofs.«01_k».proof.Proof.Gen.KernelIdeal.Skeleton

@[expose] public section

set_option synthInstance.maxSize 4096

noncomputable section

namespace Cert.KernelIdeal.Pf

open Idealize.ShloMosaic Idealize.ShloMosaic.TcCoe
open Idealize.SL Idealize.SL.Sem
open Cert.KernelIdeal.Gen

variable {F : FTy → Type} [FloatOps F]

set_option maxRecDepth 65536

/-- A signal to device `j`, then the rest: the rest comes after either branch. -/
theorem tell_bind {α : Type} (d : Dev nD) (j : Fin 8) (k : PUnit → P F α) : tellOne d j >>= k =
    if h : tells d j = 1#1 then semSignalWord (told d j h) barSem 1#32 >>= fun _ => k ⟨⟩ else k ⟨⟩ := by
  unfold tellOne
  split
  · rw [bind_assoc]; rfl
  · rfl

/-- The printed first part: the copies' starts. -/
theorem part1_eq : (k0_part1 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9) = (do
    let d : Dev nD ← Prog.lift .deviceId
    xStart
    wStart 0
    wStart 1
    wStart 2
    wStart 3
    wStart 4
    pure ⟨d, Scalar.remsi (Scalar.divsi (Dev.word d) 1#32) 8#32⟩) := (rfl)

/-- The second: the last copies' starts and the first signals. -/
theorem part2_eq (d : Dev nD) (v : BitVec 32) : (k0_part2 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 d v) = (do
    wStart 5
    wStart 6
    wStart 7
    tellOne d 0
    tellOne d 1
    tellOne d 2
    tellOne d 3
    tellOne d 4
    pure ⟨SemArray.scalar (sig.barrier 0 rfl), Scalar.cmpi .ne v 5#32⟩) := by
  simp only [tell_bind]
  rfl

/-- The third: the last signals and the first waits. -/
theorem part3_eq (d : Dev nD) (v : BitVec 32) (b : BitVec 1) : (k0_part3 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 d v (SemArray.scalar (sig.barrier 0 rfl)) b) = (do
    tellOne d 5
    tellOne d 6
    tellOne d 7
    xWait
    wWait 0
    wWait 1
    wWait 2
    wWait 3) := by
  simp only [tell_bind]
  rfl

theorem each_cons {ι : Type} (f : ι → P F PUnit) (i : ι) (l : List ι) :
    each f (i :: l) = f i >>= fun _ => each f l := rfl
theorem each_nil {ι : Type} (f : ι → P F PUnit) : each f [] = pure ⟨⟩ := rfl

set_option maxHeartbeats 1000000 in
/-- The body is `prog`. -/
theorem body_eq (t : Fin cfg0.N) : bodyAt0 (F := F) t = prog := by
  unfold prog progAt bodyAt0
  rw [cc0_body_eq_skeleton]
  unfold cc0_body_skel
  rw [k0_part20_eq_skeleton]
  unfold k0_part20_skel
  simp only [part1_eq, part2_eq, part3_eq, each_cons wStart, each_cons (tellOne _), each_cons wWait, each_nil wStart, each_nil (tellOne _), each_nil wWait, bind_assoc, pure_bind]
  rfl

end Cert.KernelIdeal.Pf

end
-- ==== Proof.KernelIdeal.Stages.lean ====
/- Each kind of step of the body, from what it takes to what it leaves. -/
module

public import proofs.«01_k».proof.Proof.KernelIdeal.Rules
public import proofs.«01_k».proof.Proof.KernelIdeal.StepsEq

@[expose] public section

set_option synthInstance.maxSize 4096

noncomputable section

namespace Cert.KernelIdeal.Pf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (K : Dev nD × Cl → ℕ) (c : Dev nD)

/-! ## The copies of the inputs -/

theorem xStart_step (k : PUnit → P F PUnit) (Q : PUnit → sProp 𝕄) :
    iprop(recs m K ∗ owns (c : Thread nD τ) xIn fullShare (xVal m c) ∗ any c xBuf ∗ tok c Cl.x 0)
      ⊢ iprop((crd c Cl.x (amt Cl.x) -∗ WP c (k ⟨⟩) Q) -∗ WP c (xStart >>= k) Q) := by
  unfold xStart; rw [Prog.bind_lift]
  exact copy_step m K c (.inl ()) (xVal m c) rfl (BI.Entails.refl _)

theorem wStart_step (r : Fin 8) (l : List (Fin 8)) (k : PUnit → P F PUnit) (Q : PUnit → sProp 𝕄) :
    iprop(recs m K ∗ (owns (c : Thread nD τ) (wRowsIn r) fullShare (wBlk m c r) ∗ any c (wRows r) ∗ tok c (Cl.w r) 0))
      ⊢ iprop(((recs m K ∗ crd c (Cl.w r) (amt (Cl.w r))) -∗ WP c (k ⟨⟩) Q) -∗ WP c (wStart r >>= k) Q) := by
  unfold wStart; rw [Prog.bind_lift]
  iintro ⟨#HR, H⟩ Hk
  iapply (copy_step m K c (.inr (.inr (.inl r))) (wBlk m c r) rfl (BI.Entails.refl _)) $$ [H]
  · isplitr; · iexact HR
    iexact H
  iintro H
  iapply Hk
  isplitr; · iexact HR
  iexact H

theorem xWait_step (O : CellTallies nD τ sig Unit) (hO : (levAts L lv : sProp 𝕄) ⊢ MayWait (c : Thread nD τ) (csem Cl.x) () O)
    (k : PUnit → P F PUnit) (Q : PUnit → sProp 𝕄) :
    iprop(st m K c O ∗ crd c Cl.x (amt Cl.x) ∗ at0 c Cl.x)
      ⊢ iprop(((st m K c O ∗ at1 c Cl.x ∗ pay m c Cl.x 0) -∗ WP c (k ⟨⟩) Q) -∗ WP c (xWait >>= k) Q) := by
  unfold xWait; rw [Prog.bind_lift]
  exact wait_own m K c (.inl ()) (wpE_waitDma2_eq 𝒱₀ (c : Thread nD τ) none Set.univ) rfl O hO

theorem wWait_step (O : CellTallies nD τ sig Unit) (hO : ∀ r, (levAts L lv : sProp 𝕄) ⊢ MayWait (c : Thread nD τ) (csem (Cl.w r)) () O)
    (r : Fin 8) (l : List (Fin 8)) (k : PUnit → P F PUnit) (Q : PUnit → sProp 𝕄) :
    iprop(st m K c O ∗ (crd c (Cl.w r) (amt (Cl.w r)) ∗ at0 c (Cl.w r)))
      ⊢ iprop(((st m K c O ∗ (at1 c (Cl.w r) ∗ pay m c (Cl.w r) 0)) -∗ WP c (k ⟨⟩) Q) -∗ WP c (wWait r >>= k) Q) := by
  unfold wWait; rw [Prog.bind_lift]
  exact wait_own m K c (.inr (.inr (.inl r))) (wpE_waitDma2_eq 𝒱₀ (c : Thread nD τ) none Set.univ) rfl O (hO r)

/-! ## The barrier -/

theorem tells_iff (j : Fin 8) : tells c j = 1#1 ↔ j ≠ c := by revert c j; decide +kernel
theorem told_eq (j : Fin 8) (h : tells c j = 1#1) : told c j h = j := by revert c j; decide +kernel

/-- What telling device `j` takes: the slot it may write, and the duty of its barrier cell. -/
def tellA (j : Dev nD) : sProp 𝕄 :=
  if j = c then iprop(emp) else iprop(∃ s, ⌜peer c s = j⌝ ∗ any c (rSlot s) ∗ tok j Cl.bar s)

theorem tell_step (O : CellTallies nD τ sig Unit) (j : Fin 8) (l : List (Fin 8)) (k : PUnit → P F PUnit) (Q : PUnit → sProp 𝕄) :
    iprop(st m K c (O + oweB c (j :: l)) ∗ tellA c j)
      ⊢ iprop(((st m K c (O + oweB c l) ∗ emp) -∗ WP c (k ⟨⟩) Q) -∗ WP c (tellOne c j >>= k) Q) := by
  rw [tell_bind]
  unfold tellA
  by_cases hj : j = c
  · have h : ¬ tells c j = 1#1 := fun h => (tells_iff c j).mp h hj
    rw [dif_neg h, if_pos hj, hj, oweB_self]
    iintro ⟨H, -⟩ Hk
    iapply Hk
    isplitl [H]; · iexact H
    iempintro
  · have h : tells c j = 1#1 := (tells_iff c j).mpr hj
    rw [dif_pos h, if_neg hj, told_eq c j h, oweB_cons c j hj, ← add_assoc]
    iintro ⟨H, ⟨%s, %hs, Hs, Ht⟩⟩ Hk
    subst hs
    iapply (signal_step m K c (k := k) (Q := Q) s (O + oweB c l) (1#32 : BitVec 32).toInt.toNat (by decide)) $$ [H Hs Ht]
    · isplitl [H]; · iexact H
      isplitl [Hs] <;> iassumption
    iintro H
    iapply Hk
    isplitl [H]; · iexact H
    iempintro

theorem barWait_step (O : CellTallies nD τ sig Unit) (hO : (levAts L lv : sProp 𝕄) ⊢ MayWait (c : Thread nD τ) (csem Cl.bar) () O)
    (k : PUnit → P F PUnit) (Q : PUnit → sProp 𝕄) :
    iprop(st m K c O ∗ crd c Cl.bar 7 ∗ at0 c Cl.bar)
      ⊢ iprop(((st m K c O ∗ at1 c Cl.bar ∗ bigSep Finset.univ fun d => any (peer c d) (rSlot d)) -∗ WP c (k ⟨⟩) Q)
          -∗ WP c (barWait >>= k) Q) := by
  have h := wait_step m K c (k := k) (Q := Q) Cl.bar (n := 7) (wpE_semWait_eq 𝒱₀ (c : Thread nD τ) none Set.univ) (expect_bar m c).symm O hO
  rw [rest_bar] at h
  exact h

/-! ## The tiles -/

theorem xLoad_step (X : Vec F S128x1024 .bf16) (k : Vec F S128x1024 .bf16 → P F PUnit) (Q : PUnit → sProp 𝕄) :
    owns (c : Thread nD τ) xBuf fullShare X
      ⊢ iprop((owns (c : Thread nD τ) xBuf fullShare X -∗ WP c (k X) Q) -∗ WP c (xLoad >>= k) Q) := by
  unfold xLoad; rw [Prog.bind_lift]
  have h := load_whole c xBuf (Rect.unit (s := S128x1024) ![0, 0] S128x1024.size inb_S128x1024_S128x1024_0_0) (Q := Q) X
    (hl := View.loadsAt_vmem h_S128x1024) (k := k)
  rwa [show (fun j => X ((Rect.unit (s := S128x1024) ![0, 0] S128x1024.size inb_S128x1024_S128x1024_0_0).emb j)) = X from
    Memref.readAt_unit_zero (Elt F) cc0_scratch0 (funext fun a => by fin_cases a <;> rfl) _ X] at h

theorem fill_step (s : Fin 7) (k : PUnit → P F PUnit) (Q : PUnit → sProp 𝕄) :
    iprop(owns (c : Thread nD τ) wBuf fullShare (wVal m c) ∗ any c (sSlot s))
      ⊢ iprop(((owns (c : Thread nD τ) wBuf fullShare (wVal m c) ∗ owns (c : Thread nD τ) (sSlot s) fullShare (tileAt m c s)) -∗ WP c (k ⟨⟩) Q)
          -∗ WP c (fill c (xVal m c) s >>= k) Q) := by
  unfold fill
  simp only [bind_assoc, Prog.bind_lift]
  rw [any_squeeze]
  iintro ⟨Hw, Hs⟩ Hk
  iapply (load_whole c wBuf (tileCols c s) (wVal m c)) $$ Hw
  iintro Hw
  ihave Hs := (any_elim c _) $$ Hs
  icases Hs with ⟨%X, Hs⟩
  iapply (load_piece c sBuf (slot7 s) (fun _ => rfl) X) $$ Hs
  iintro Hs
  ihave Hs := (any_intro c _ _) $$ Hs
  iapply (store_piece c sBuf (slot7 s) (fun _ => rfl) _) $$ Hs
  iintro Hs
  iapply Hk
  isplitl [Hw]; · iexact Hw
  rw [owns_squeeze c _ _ _ shapeCasts_S128x128_S1x128x128]
  iexact Hs

theorem post_step (s : Fin 7) (O : CellTallies nD τ sig Unit) (k : PUnit → P F PUnit) (Q : PUnit → sProp 𝕄) :
    iprop(st m K c (O + tallyAt (kc (peer c s) (Cl.rcv s)) () (amt (Cl.rcv s)))
        ∗ owns (c : Thread nD τ) (sSlot s) fullShare (tileAt m c s) ∗ any (peer c s) (rSlot s)
        ∗ tok c (Cl.snd s) 0 ∗ tok (peer c s) (Cl.rcv s) 0)
      ⊢ iprop(((st m K c O ∗ crd c (Cl.snd s) (amt (Cl.snd s))) -∗ WP c (k ⟨⟩) Q) -∗ WP c (post c s >>= k) Q) := by
  unfold post; rw [Prog.bind_lift]
  exact send_step m K c s (sendTo c s) (sendTo_eq c s) O

/-- What step `s` takes to send its tile. -/
def sendA (s : Fin 7) : sProp 𝕄 :=
  iprop(any c (sSlot s) ∗ any (peer c s) (rSlot s) ∗ tok c (Cl.snd s) 0 ∗ tok (peer c s) (Cl.rcv s) 0)

theorem fillPost_step (s : Fin 7) (l : List (Fin 7)) (k : PUnit → P F PUnit) (Q : PUnit → sProp 𝕄) :
    iprop((st m K c (oweR c (s :: l)) ∗ owns (c : Thread nD τ) wBuf fullShare (wVal m c)) ∗ sendA c s)
      ⊢ iprop((((st m K c (oweR c l) ∗ owns (c : Thread nD τ) wBuf fullShare (wVal m c)) ∗ crd c (Cl.snd s) (amt (Cl.snd s))) -∗ WP c (k ⟨⟩) Q)
          -∗ WP c ((fill c (xVal m c) s >>= fun _ => post c s) >>= k) Q) := by
  rw [bind_assoc, oweR_cons]
  unfold sendA
  iintro ⟨⟨H, Hw⟩, Hs, Hd, Ht, Ht'⟩ Hk
  iapply (fill_step m c s _ Q) $$ [Hw Hs]
  · isplitl [Hw] <;> iassumption
  iintro ⟨Hw, Hs⟩
  iapply (post_step m K c s (oweR c l) k Q) $$ [H Hs Hd Ht Ht']
  · isplitl [H]; · iexact H
    isplitl [Hs]; · iexact Hs
    isplitl [Hd]; · iexact Hd
    isplitl [Ht] <;> iassumption
  iintro ⟨H, Hc⟩
  iapply Hk
  isplitl [H Hw]
  · isplitl [H] <;> iassumption
  iexact Hc

theorem own_step (k : PUnit → P F PUnit) (Q : PUnit → sProp 𝕄) :
    iprop(recs m K ∗ owns (c : Thread nD τ) wBuf fullShare (wVal m c) ∗ any c (oSlot 7) ∗ any c (ownOut c) ∗ tok c Cl.own 0)
      ⊢ iprop(((owns (c : Thread nD τ) wBuf fullShare (wVal m c) ∗ crd c Cl.own (amt Cl.own)) -∗ WP c (k ⟨⟩) Q)
          -∗ WP c (own c (xVal m c) >>= k) Q) := by
  unfold own
  simp only [bind_assoc, Prog.bind_lift]
  rw [any_squeeze]
  iintro ⟨#HR, Hw, Hs, Ho, Ht⟩ Hk
  iapply (load_whole c wBuf (ownCols c) (wVal m c)) $$ Hw
  iintro Hw
  ihave Hs := (any_elim c _) $$ Hs
  icases Hs with ⟨%X, Hs⟩
  iapply (load_piece c oBuf (slot8 7) (fun _ => rfl) X) $$ Hs
  iintro Hs
  ihave Hs := (any_intro c _ _) $$ Hs
  iapply (store_piece c oBuf (slot8 7) (fun _ => rfl) _) $$ Hs
  iintro Hs
  ihave Hs := (show owns (c : Thread nD τ) (oBuf.slice (slot8 7) (fun _ => rfl)) fullShare (up32 (ownTile m c)) ⊢ _ from
    Entails.of_eq (owns_squeeze c (oBuf.slice (slot8 7) (fun _ => rfl)) S128x128 squeezes_S1x128x128_S128x128
      shapeCasts_S128x128_S1x128x128 (ownTile m c)).symm) $$ Hs
  iapply (copy_step m K c (.inr (.inl ())) (ownTile m c) (out_amt _ rfl 7) (BIClass.sep_mono (BI.Entails.refl _) (any_intro c (oSlot 7) _))) $$ [Hs Ho Ht]
  · isplitr; · iexact HR
    isplitl [Hs]; · iexact Hs
    isplitl [Ho] <;> iassumption
  iintro Hc
  iapply Hk
  isplitl [Hw] <;> iassumption

/-! ## The tiles received -/

/-- What draining receive slot `s` takes, and what it leaves. -/
def drainA (s : Fin 7) : sProp 𝕄 :=
  iprop(crd c (Cl.rcv s) (amt (Cl.rcv s)) ∗ at0 c (Cl.rcv s) ∗ any c (oSlot s.castSucc) ∗ any c (tileOut c s) ∗ tok c (Cl.out s) 0)
def drainB (s : Fin 7) : sProp 𝕄 :=
  iprop(at1 c (Cl.rcv s) ∗ any c (rSlot s) ∗ crd c (Cl.out s) (amt (Cl.out s)))

/-- Widening a tile read back from its slot is putting the widened tile into a slot. -/
theorem widen_up (v : Vec F S128x128 .bf16) :
    widen (shapeCast S1x128x128 v shapeCasts_S128x128_S1x128x128) = up32 (extf .f32 v bitsLt_bf16_f32) := by
  unfold widen; rw [shapeCast_shapeCast]

theorem drain_step (s : Fin 7) (l : List (Fin 7)) (k : PUnit → P F PUnit) (Q : PUnit → sProp 𝕄) :
    iprop(st m K c 0 ∗ drainA c s) ⊢ iprop(((st m K c 0 ∗ drainB c s) -∗ WP c (k ⟨⟩) Q) -∗ WP c (drain c s >>= k) Q) := by
  unfold drain drainA drainB
  simp only [bind_assoc, Prog.bind_lift]
  rw [any_squeeze c (oBuf.slice (slot8 s.castSucc) (fun _ => rfl))]
  iintro ⟨H, Hc, Hat, Hs, Ho, Ht⟩ Hk
  iapply (wait_own m K c (.inr (.inr (.inr (.inr (.inr s))))) (wpE_waitDma2_eq 𝒱₀ (c : Thread nD τ) none Set.univ) rfl 0 (mayWait_none c (Cl.rcv s))) $$ [H Hc Hat]
  · isplitl [H]; · iexact H
    isplitl [Hc] <;> iassumption
  iintro ⟨H, Hat, Hr⟩
  ihave Hr := (show pay m c (Cl.rcv s) 0 ⊢ owns (c : Thread nD τ) (rBuf.slice (slot7 s) (fun _ => rfl)) fullShare
    (shapeCast S1x128x128 (tileAt m (peer c s) s) shapeCasts_S128x128_S1x128x128) from Entails.of_eq (owns_squeeze c (rBuf.slice (slot7 s) (fun _ => rfl)) S128x128
    squeezes_S1x128x128_S128x128 shapeCasts_S128x128_S1x128x128 (tileAt m (peer c s) s))) $$ Hr
  iapply (load_piece c rBuf (slot7 s) (fun _ => rfl)
    (shapeCast S1x128x128 (tileAt m (peer c s) s) shapeCasts_S128x128_S1x128x128)) $$ Hr
  iintro Hr
  ihave Hs := (any_elim c _) $$ Hs
  icases Hs with ⟨%X, Hs⟩
  iapply (load_piece c oBuf (slot8 s.castSucc) (fun _ => rfl) X) $$ Hs
  iintro Hs
  ihave Hs := (any_intro c _ _) $$ Hs
  iapply (store_piece c oBuf (slot8 s.castSucc) (fun _ => rfl) _) $$ Hs
  iintro Hs
  ihave Hs := (show owns (c : Thread nD τ) (oBuf.slice (slot8 s.castSucc) (fun _ => rfl)) fullShare
      (widen (shapeCast S1x128x128 (tileAt m (peer c s) s) shapeCasts_S128x128_S1x128x128)) ⊢ _ from
    (Entails.of_eq (congrArg (owns (c : Thread nD τ) (oBuf.slice (slot8 s.castSucc) (fun _ => rfl)) fullShare) (widen_up (tileAt m (peer c s) s)))).trans
    (Entails.of_eq (owns_squeeze c (oBuf.slice (slot8 s.castSucc) (fun _ => rfl)) S128x128 squeezes_S1x128x128_S128x128
      shapeCasts_S128x128_S1x128x128 (gotTile m c s)).symm)) $$ Hs
  unfold st
  icases H with ⟨#HR, Hrest⟩
  iapply (copy_step m K c (.inr (.inr (.inr (.inl s)))) (gotTile m c s) (out_amt _ rfl s.castSucc) (BIClass.sep_mono (BI.Entails.refl _) (any_intro c (oSlot s.castSucc) _))) $$ [Hs Ho Ht]
  · isplitr; · iexact HR
    isplitl [Hs]; · iexact Hs
    isplitl [Ho] <;> iassumption
  iintro Hc
  iapply Hk
  isplitl [Hrest]
  · isplitr; · iexact HR
    iexact Hrest
  isplitl [Hat]; · iexact Hat
  isplitl [Hr]
  · rw [any_squeeze]; iapply (any_intro c _ _); iexact Hr
  iexact Hc

theorem outWait_step (s : Fin 7) (l : List (Fin 7)) (k : PUnit → P F PUnit) (Q : PUnit → sProp 𝕄) :
    iprop(st m K c 0 ∗ (crd c (Cl.out s) (amt (Cl.out s)) ∗ at0 c (Cl.out s)))
      ⊢ iprop(((st m K c 0 ∗ (at1 c (Cl.out s) ∗ pay m c (Cl.out s) 0)) -∗ WP c (k ⟨⟩) Q) -∗ WP c (outWait c s >>= k) Q) := by
  unfold outWait; rw [Prog.bind_lift]
  exact wait_own m K c (.inr (.inr (.inr (.inl s)))) (wpE_waitDma2_eq 𝒱₀ (c : Thread nD τ) none Set.univ)
    (out_amt _ rfl s.castSucc) 0 (mayWait_none c (Cl.out s))

theorem ownWait_step (k : PUnit → P F PUnit) (Q : PUnit → sProp 𝕄) :
    iprop(st m K c 0 ∗ crd c Cl.own (amt Cl.own) ∗ at0 c Cl.own)
      ⊢ iprop(((st m K c 0 ∗ at1 c Cl.own ∗ pay m c Cl.own 0) -∗ WP c (k ⟨⟩) Q) -∗ WP c (ownWait c >>= k) Q) := by
  unfold ownWait; rw [Prog.bind_lift]
  exact wait_own m K c (.inr (.inl ())) (wpE_waitDma2_eq 𝒱₀ (c : Thread nD τ) none Set.univ)
    (out_amt _ rfl 7) 0 (mayWait_none c Cl.own)

theorem sentWait_step (s : Fin 7) (l : List (Fin 7)) (k : PUnit → P F PUnit) (Q : PUnit → sProp 𝕄) :
    iprop(st m K c 0 ∗ (crd c (Cl.snd s) (amt (Cl.snd s)) ∗ at0 c (Cl.snd s)))
      ⊢ iprop(((st m K c 0 ∗ (at1 c (Cl.snd s) ∗ pay m c (Cl.snd s) 0)) -∗ WP c (k ⟨⟩) Q) -∗ WP c (sentWait s >>= k) Q) := by
  unfold sentWait; rw [Prog.bind_lift]
  exact wait_own m K c (.inr (.inr (.inr (.inr (.inl s))))) (wpE_waitDma2_eq 𝒱₀ (c : Thread nD τ) none Set.univ) rfl 0 (mayWait_none c (Cl.snd s))

end Cert.KernelIdeal.Pf

end
-- ==== Proof.KernelIdeal.Body.lean ====
/- The body, run step by step: what it takes from the launch, and what it leaves. -/
module

public import proofs.«01_k».proof.Proof.KernelIdeal.Stages

@[expose] public section

set_option synthInstance.maxSize 4096

noncomputable section

namespace Cert.KernelIdeal.Pf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## Families over the cells, the steps and the blocks -/

theorem over7 (A : Fin 7 → sProp 𝕄) : bigSep Finset.univ A = bigSepL steps A :=
  bigSep_univ_eq_bigSepL [0, 1, 2, 3, 4, 5, 6] (by decide) (by decide) A
theorem over8 (A : Fin 8 → sProp 𝕄) : bigSep Finset.univ A = bigSepL devs A :=
  bigSep_univ_eq_bigSepL [0, 1, 2, 3, 4, 5, 6, 7] (by decide) (by decide) A

/-- Eight slots are the last one and the seven of the steps. -/
theorem last_slot (A : Fin 8 → sProp 𝕄) : bigSep Finset.univ A = iprop(A 7 ∗ bigSep Finset.univ fun s : Fin 7 => A s.castSucc) := by
  rw [BI.bigSep_univ_split (7 : Fin 8),
    show (Finset.univ : Finset (Fin 8)).erase 7 = Finset.univ.map ⟨Fin.castSucc, Fin.castSucc_injective 7⟩ by decide, BI.bigSep_map]
  rfl

/-- One statement per own cell, kind by kind. -/
theorem over_own (A : Ow → sProp 𝕄) : bigSep Finset.univ A
    = iprop(A (.inl ()) ∗ A (.inr (.inl ())) ∗ (bigSep Finset.univ fun r => A (.inr (.inr (.inl r))))
        ∗ (bigSep Finset.univ fun s => A (.inr (.inr (.inr (.inl s))))) ∗ (bigSep Finset.univ fun s => A (.inr (.inr (.inr (.inr (.inl s))))))
        ∗ bigSep Finset.univ fun s => A (.inr (.inr (.inr (.inr (.inr s)))))) := by
  simp only [BI.bigSep_univ_sum, Finset.univ_unique, BI.bigSep_singleton]
  rfl
/-- One statement per cell. -/
theorem over_cells (A : Cl → sProp 𝕄) : bigSep Finset.univ A = iprop(A Cl.bar ∗ bigSep Finset.univ fun o => A (.inr o)) := by
  rw [BI.bigSep_univ_sum]
  simp only [Finset.univ_unique, BI.bigSep_singleton]
  rfl

/-- Two lists of resources, paired. -/
theorem list_zip {ι : Type} (A B : ι → sProp 𝕄) : ∀ l : List ι, iprop(bigSepL l A ∗ bigSepL l B) ⊢ bigSepL l fun i => iprop(A i ∗ B i)
  | [] => by iintro ⟨H, -⟩; iexact H
  | i :: l => by
    rw [list_cons, list_cons, list_cons]
    iintro ⟨⟨Ha, Has⟩, Hb, Hbs⟩
    isplitl [Ha Hb]
    · isplitl [Ha] <;> iassumption
    iapply (list_zip A B l)
    isplitl [Has] <;> iassumption

/-- `wp_each` over a list that names everything once. -/
theorem wp_all {ι : Type} [Fintype ι] (c : Dev nD) (l : List ι) (hl : ∀ A : ι → sProp 𝕄, bigSep Finset.univ A = bigSepL l A)
    (f : ι → P F PUnit) (R : List ι → sProp 𝕄) (A B : ι → sProp 𝕄)
    (h : ∀ (i : ι) (l : List ι) (k : PUnit → P F PUnit) (Q : PUnit → sProp 𝕄),
      iprop(R (i :: l) ∗ A i) ⊢ iprop(((R l ∗ B i) -∗ WP c (k ⟨⟩) Q) -∗ WP c (f i >>= k) Q))
    (k : PUnit → P F PUnit) (Q : PUnit → sProp 𝕄) :
    iprop(R l ∗ bigSep Finset.univ A) ⊢ iprop(((R [] ∗ bigSep Finset.univ B) -∗ WP c (k ⟨⟩) Q) -∗ WP c (each f l >>= k) Q) := by
  rw [hl A, hl B]; exact wp_each c f R A B h l k Q

variable (m : (ℓ : Loc nD τ sig) → Buf (Elt F) ℓ) (K : Dev nD × Cl → ℕ) (c : Dev nD)

/-! ## What the body takes and leaves -/

/-- The tokens of the duties the core pays. -/
def payToks : sProp 𝕄 :=
  iprop(tok c Cl.x 0 ∗ tok c Cl.own 0 ∗ (bigSep Finset.univ fun r => tok c (Cl.w r) 0) ∗ (bigSep Finset.univ fun s => tok c (Cl.out s) 0)
    ∗ (bigSep Finset.univ fun s => tok c (Cl.snd s) 0) ∗ (bigSep Finset.univ fun s => tok (peer c s) (Cl.rcv s) 0)
    ∗ bigSep Finset.univ fun s => tok (peer c s) Cl.bar s)
/-- The credit of what the other cores owe it. -/
def creds : sProp 𝕄 := iprop(crd c Cl.bar 7 ∗ bigSep Finset.univ fun s => crd c (Cl.rcv s) (amt (Cl.rcv s)))
/-- The arrays as the launch finds them. -/
def arrs : sProp 𝕄 := iprop(owns (c : Thread nD τ) xIn fullShare (xVal m c) ∗ owns (c : Thread nD τ) wIn fullShare (wVal m c) ∗ any c yOut)
/-- The arrays as the body leaves them. -/
def arrs' : sProp 𝕄 := iprop(owns (c : Thread nD τ) xIn fullShare (xVal m c) ∗ owns (c : Thread nD τ) wIn fullShare (wVal m c)
  ∗ owns (c : Thread nD τ) (yRows c) fullShare (ownTile m c)
  ∗ bigSep Finset.univ fun s => owns (c : Thread nD τ) (yRows (peer c s)) fullShare (gotTile m c s))
/-- The buffers the body works in. -/
def scr : sProp 𝕄 := iprop(any c xBuf ∗ any c wBuf ∗ any c sBuf ∗ any c rBuf ∗ any c oBuf)

/-! ## Receiving -/

/-- What the last part of the body takes: the tiles received, with what their copies out need, and what the waits for the
    own tile and for the tiles sent need. -/
def preC : sProp 𝕄 :=
  iprop(st m K c 0 ∗ (bigSep Finset.univ fun s => drainA c s) ∗ (bigSep Finset.univ fun s => at0 c (Cl.out s))
    ∗ (crd c Cl.own (amt Cl.own) ∗ at0 c Cl.own)
    ∗ bigSep Finset.univ fun s => iprop(crd c (Cl.snd s) (amt (Cl.snd s)) ∗ at0 c (Cl.snd s)))
/-- What it leaves. -/
def postC : sProp 𝕄 :=
  iprop(st m K c 0 ∗ (bigSep Finset.univ fun s => at1 c (Cl.rcv s)) ∗ any c rBuf ∗ (bigSep Finset.univ fun s => at1 c (Cl.out s))
    ∗ (owns (c : Thread nD τ) (yRows c) fullShare (ownTile m c)
        ∗ bigSep Finset.univ fun s => owns (c : Thread nD τ) (yRows (peer c s)) fullShare (gotTile m c s))
    ∗ any c oBuf ∗ at1 c Cl.own ∗ (bigSep Finset.univ fun s => at1 c (Cl.snd s)) ∗ any c sBuf)

theorem receive (Q : PUnit → sProp 𝕄) :
    iprop(preC m K c ∗ (postC m K c -∗ WP c (pure ⟨⟩) Q)) ⊢ WP c (do
      each (drain c) [0, 1, 2, 3, 4, 5, 6]
      each (outWait c) [0, 1, 2, 3, 4, 5, 6]
      ownWait c
      each sentWait [0, 1, 2, 3, 4, 5, 6]) Q := by
  rw [← Prog.bind_pure (each sentWait [0, 1, 2, 3, 4, 5, 6])]
  unfold preC postC
  iintro ⟨⟨H, Hd, Ho, ⟨Hcw, Haw⟩, Hs⟩, Hk⟩
  iapply (wp_all c steps over7 (drain c) (fun _ => st m K c 0) (drainA c) (drainB c) (drain_step m K c) _ Q) $$ [H Hd]
  · isplitl [H] <;> iassumption
  unfold drainB
  simp only [bigSep_sep']
  iintro ⟨H, Hd, Hr, Hc⟩
  iapply (wp_all c steps over7 (outWait c) (fun _ => st m K c 0) _ _ (outWait_step m K c) _ Q) $$ [H Ho Hc]
  · simp only [bigSep_sep']
    isplitl [H]; · iexact H
    isplitl [Hc] <;> iassumption
  rw [show (fun s => iprop(at1 c (Cl.out s) ∗ pay m c (Cl.out s) 0))
    = fun s => iprop(at1 c (Cl.out s) ∗ owns (c : Thread nD τ) (yRows (peer c s)) fullShare (gotTile m c s) ∗ any c (oSlot s.castSucc)) from
      funext fun s => by rw [← tileOut_owns]; rfl]
  simp only [bigSep_sep']
  iintro ⟨H, Ho, Hy, Hb⟩
  iapply (ownWait_step m K c _ Q) $$ [H Hcw Haw]
  · isplitl [H]; · iexact H
    isplitl [Hcw] <;> iassumption
  rw [show pay m c Cl.own 0 = iprop(owns (c : Thread nD τ) (yRows c) fullShare (ownTile m c) ∗ any c (oSlot 7)) from by
    rw [← ownOut_owns]; rfl]
  iintro ⟨H, Haw, Hyw, Hbw⟩
  iapply (wp_all c steps over7 sentWait (fun _ => st m K c 0) _ _ (sentWait_step m K c) _ Q) $$ [H Hs]
  · simp only [bigSep_sep']
    isplitl [H] <;> iassumption
  rw [show (fun s => iprop(at1 c (Cl.snd s) ∗ pay m c (Cl.snd s) 0)) = fun s => iprop(at1 c (Cl.snd s) ∗ any c (sSlot s)) from rfl]
  simp only [bigSep_sep']
  iintro ⟨H, Hs, Hsb⟩
  iapply Hk
  isplitl [H]; · iexact H
  isplitl [Hd]; · iexact Hd
  isplitl [Hr]; · iapply (recv_join c); iexact Hr
  isplitl [Ho]; · iexact Ho
  isplitl [Hy Hyw]
  · isplitl [Hyw] <;> iassumption
  isplitl [Hb Hbw]
  · iapply (out_join c)
    rw [last_slot]
    isplitl [Hbw] <;> iassumption
  isplitl [Haw]; · iexact Haw
  isplitl [Hs]; · iexact Hs
  iapply (send_join c); iexact Hsb

/-! ## Sending -/

/-- What the middle part takes: the buffers filled, the barrier's credit, and what the sends and the own copy need. -/
def preB : sProp 𝕄 :=
  iprop(st m K c (oweR c steps) ∗ owns (c : Thread nD τ) xBuf fullShare (xVal m c) ∗ owns (c : Thread nD τ) wBuf fullShare (wVal m c)
    ∗ (crd c Cl.bar 7 ∗ at0 c Cl.bar) ∗ (bigSep Finset.univ fun s => any c (sSlot s))
    ∗ (bigSep Finset.univ fun s => tok c (Cl.snd s) 0) ∗ (bigSep Finset.univ fun s => tok (peer c s) (Cl.rcv s) 0)
    ∗ any c (oSlot 7) ∗ any c (ownOut c) ∗ tok c Cl.own 0)
/-- What it leaves. -/
def postB : sProp 𝕄 :=
  iprop(st m K c 0 ∗ any c xBuf ∗ any c wBuf ∗ at1 c Cl.bar
    ∗ (bigSep Finset.univ fun s => crd c (Cl.snd s) (amt (Cl.snd s))) ∗ crd c Cl.own (amt Cl.own))

theorem send (k : P F PUnit) (Q : PUnit → sProp 𝕄) :
    iprop(preB m K c ∗ (postB m K c -∗ WP c k Q)) ⊢ WP c (do
      let x ← xLoad
      fill c x 0
      barWait
      post c 0
      each (fun s => fill c x s >>= fun _ => post c s) [1, 2, 3, 4, 5, 6]
      own c x
      k) Q := by
  unfold preB postB
  iintro ⟨⟨H, Hx, Hw, ⟨Hcb, Hab⟩, Hs, Hts, Htr, Ho, Hy, Hto⟩, Hk⟩
  iapply (xLoad_step c (xVal m c) _ Q) $$ Hx
  iintro Hx
  ihave Hs := (Entails.of_eq ((over7 _).trans (list_cons 0 [1, 2, 3, 4, 5, 6] _))) $$ Hs
  icases Hs with ⟨Hs, Hss⟩
  iapply (fill_step m c 0 _ Q) $$ [Hw Hs]
  · isplitl [Hw] <;> iassumption
  iintro ⟨Hw, Hs⟩
  iapply (barWait_step m K c (oweR c steps) (mayWait_low c Cl.bar (le_refl 1) steps) _ Q) $$ [H Hcb Hab]
  · isplitl [H]; · iexact H
    isplitl [Hcb] <;> iassumption
  iintro ⟨H, Hab, Hp⟩
  ihave Hp := (Entails.of_eq ((over7 _).trans (list_cons 0 [1, 2, 3, 4, 5, 6] _))) $$ Hp
  icases Hp with ⟨Hp, Hps⟩
  ihave Hts := (Entails.of_eq ((over7 _).trans (list_cons 0 [1, 2, 3, 4, 5, 6] _))) $$ Hts
  icases Hts with ⟨Ht, Hts⟩
  ihave Htr := (Entails.of_eq ((over7 _).trans (list_cons 0 [1, 2, 3, 4, 5, 6] _))) $$ Htr
  icases Htr with ⟨Hr, Htr⟩
  iapply (post_step m K c 0 (oweR c [1, 2, 3, 4, 5, 6]) _ Q) $$ [H Hs Hp Ht Hr]
  · isplitl [H]; · rw [← oweR_cons]; iexact H
    isplitl [Hs]; · iexact Hs
    isplitl [Hp]; · iexact Hp
    isplitl [Ht] <;> iassumption
  iintro ⟨H, Hc⟩
  iapply (wp_each c (fun s => fill c (xVal m c) s >>= fun _ => post c s)
    (fun l => iprop(st m K c (oweR c l) ∗ owns (c : Thread nD τ) wBuf fullShare (wVal m c))) (sendA c)
    (fun s => crd c (Cl.snd s) (amt (Cl.snd s))) (fillPost_step m K c) [1, 2, 3, 4, 5, 6] _ Q) $$ [H Hw Hss Hps Hts Htr]
  · isplitl [H Hw]
    · isplitl [H] <;> iassumption
    unfold sendA
    iapply (list_zip _ _ _); isplitl [Hss]; · iexact Hss
    iapply (list_zip _ _ _); isplitl [Hps]; · iexact Hps
    iapply (list_zip _ _ _); isplitl [Hts] <;> iassumption
  rw [oweR_nil]
  iintro ⟨⟨H, Hw⟩, Hcs⟩
  unfold st
  icases H with ⟨#HR, H⟩
  iapply (own_step m K c _ Q) $$ [Hw Ho Hy Hto]
  · isplitr; · iexact HR
    isplitl [Hw]; · iexact Hw
    isplitl [Ho]; · iexact Ho
    isplitl [Hy] <;> iassumption
  iintro ⟨Hw, Hco⟩
  iapply Hk
  isplitl [H]
  · isplitr; · iexact HR
    iexact H
  isplitl [Hx]; · iapply (any_intro c xBuf _); iexact Hx
  isplitl [Hw]; · iapply (any_intro c wBuf _); iexact Hw
  isplitl [Hab]; · iexact Hab
  isplitl [Hc Hcs]
  · iapply (Entails.of_eq ((over7 _).trans (list_cons 0 [1, 2, 3, 4, 5, 6] _)).symm)
    isplitl [Hc] <;> iassumption
  iexact Hco

/-! ## Loading, and telling the other devices -/

def preA : sProp 𝕄 :=
  iprop(st m K c (O₀ c) ∗ owns (c : Thread nD τ) xIn fullShare (xVal m c) ∗ owns (c : Thread nD τ) wIn fullShare (wVal m c)
    ∗ any c xBuf ∗ any c wBuf ∗ any c rBuf ∗ (tok c Cl.x 0 ∗ at0 c Cl.x)
    ∗ (bigSep Finset.univ fun r => tok c (Cl.w r) 0) ∗ (bigSep Finset.univ fun r => at0 c (Cl.w r))
    ∗ bigSep Finset.univ fun s => tok (peer c s) Cl.bar s)
def postA : sProp 𝕄 :=
  iprop(st m K c (oweR c steps) ∗ owns (c : Thread nD τ) xIn fullShare (xVal m c) ∗ owns (c : Thread nD τ) wIn fullShare (wVal m c)
    ∗ owns (c : Thread nD τ) xBuf fullShare (xVal m c) ∗ owns (c : Thread nD τ) wBuf fullShare (wVal m c)
    ∗ at1 c Cl.x ∗ bigSep Finset.univ fun r => at1 c (Cl.w r))

/-- The receive slots, each with the token of the duty that hands it over. -/
theorem tells_intro : iprop((bigSep Finset.univ fun s => any c (rSlot s)) ∗ bigSep Finset.univ fun s => tok (peer c s) Cl.bar s)
    ⊢ (bigSep Finset.univ (tellA c) : sProp 𝕄) := by
  have h (s : Fin 7) : iprop(any c (rSlot s) ∗ tok (peer c s) Cl.bar s) ⊢ (tellA c (peer c s) : sProp 𝕄) := by
    unfold tellA
    rw [if_neg (peer_ne c s)]
    iintro ⟨Hs, Ht⟩
    iexists s
    isplitr; · ipureintro; rfl
    isplitl [Hs] <;> iassumption
  have hs : iprop((bigSep Finset.univ fun s => any c (rSlot s)) ∗ bigSep Finset.univ fun s => tok (peer c s) Cl.bar s)
      ⊢ (bigSep Finset.univ fun s => tellA c (peer c s) : sProp 𝕄) := by
    rw [← bigSep_sep']; exact bigSep_mono fun s _ => h s
  rw [bigSep_peers c (tellA c)]
  iintro H
  isplitr
  · unfold tellA; rw [if_pos rfl]; iempintro
  iapply hs; iexact H

theorem load (k : P F PUnit) (Q : PUnit → sProp 𝕄) :
    iprop(preA m K c ∗ (postA m K c -∗ WP c k Q)) ⊢ WP c (do
      xStart
      each wStart [0, 1, 2, 3, 4, 5, 6, 7]
      each (tellOne c) [0, 1, 2, 3, 4, 5, 6, 7]
      xWait
      each wWait [0, 1, 2, 3, 4, 5, 6, 7]
      k) Q := by
  unfold preA postA st O₀
  iintro ⟨⟨⟨#HR, H⟩, Hx, Hw, Hxb, Hwb, Hr, ⟨Htx, Hax⟩, Htw, Haw, Htb⟩, Hk⟩
  iapply (xStart_step m K c _ Q) $$ [Hx Hxb Htx]
  · isplitr; · iexact HR
    isplitl [Hx]; · iexact Hx
    isplitl [Hxb] <;> iassumption
  iintro Hcx
  iapply (wp_all c devs over8 wStart (fun _ => recs m K) _ _ (wStart_step m K c) _ Q) $$ [Hw Hwb Htw]
  · isplitr; · iexact HR
    simp only [bigSep_sep']
    isplitl [Hw]; · iapply (wIn_split c m); iexact Hw
    isplitl [Hwb]; · iapply (wBuf_split c); iexact Hwb
    iexact Htw
  iintro ⟨-, Hcw⟩
  iapply (wp_all c devs over8 (tellOne c) (fun l => st m K c (oweR c steps + oweB c l)) (tellA c) (fun _ => iprop(emp))
    (tell_step m K c (oweR c steps)) _ Q) $$ [H Hr Htb]
  · isplitl [H]
    · unfold st
      isplitr; · iexact HR
      iexact H
    iapply (tells_intro c)
    isplitl [Hr]; · iapply (recv_split c); iexact Hr
    iexact Htb
  rw [oweB_nil, add_zero]
  iintro ⟨H, -⟩
  iapply (xWait_step m K c (oweR c steps) (mayWait_low c Cl.x (Nat.zero_le 1) steps) _ Q) $$ [H Hcx Hax]
  · isplitl [H]; · iexact H
    isplitl [Hcx] <;> iassumption
  rw [show pay m c Cl.x 0 = iprop(owns (c : Thread nD τ) xBuf fullShare (xVal m c) ∗ owns (c : Thread nD τ) xIn fullShare (xVal m c)) from rfl]
  iintro ⟨H, Hax, Hxb, Hx⟩
  iapply (wp_all c devs over8 wWait (fun _ => st m K c (oweR c steps)) _ _
    (wWait_step m K c (oweR c steps) fun r => mayWait_low c (Cl.w r) (Nat.zero_le 1) steps) _ Q) $$ [H Hcw Haw]
  · isplitl [H]; · iexact H
    simp only [bigSep_sep']
    isplitl [Hcw] <;> iassumption
  rw [show (fun r => iprop(at1 c (Cl.w r) ∗ pay m c (Cl.w r) 0)) = fun r => iprop(at1 c (Cl.w r)
      ∗ owns (c : Thread nD τ) (wRows r) fullShare (wBlk m c r) ∗ owns (c : Thread nD τ) (wRowsIn r) fullShare (wBlk m c r)) from rfl]
  simp only [bigSep_sep']
  unfold st
  iintro ⟨H, Haw, Hwb, Hw⟩
  iapply Hk
  isplitl [H]; · iexact H
  isplitl [Hx]; · iexact Hx
  isplitl [Hw]; · iapply (wIn_join c m); iexact Hw
  isplitl [Hxb]; · iexact Hxb
  isplitl [Hwb]; · iapply (wBuf_join c m); iexact Hwb
  isplitl [Hax] <;> iassumption

/-! ## The whole body -/

/-- What the body takes. -/
def bodyPre : sProp 𝕄 :=
  iprop(st m K c (O₀ c) ∗ (bigSep Finset.univ fun k : Cl => at0 c k) ∗ payToks c ∗ creds c ∗ arrs m c ∗ scr c)
/-- What it leaves: every cell closed, its counter at zero. -/
def bodyPost : sProp 𝕄 :=
  iprop((∃ W, owes (c : Thread nD τ) (0 : CellTallies nD τ sig Unit) W) ∗ (bigSep Finset.univ fun k : Cl => semVal (kc c k) 0) ∗ arrs' m c ∗ scr c)

/-- A core at the end of its cells' rounds closes them. -/
theorem close_cells : iprop(recs m K ∗ bigSep Finset.univ fun k : Cl => at1 c k)
    ⊢ (|={Set.univ}=> bigSep Finset.univ fun k : Cl => semVal (kc c k) 0 : sProp 𝕄) := by
  have h (k : Cl) : iprop(recs m K ∗ at1 c k) ⊢ (|={Set.univ}=> semVal (kc c k) 0 : sProp 𝕄) := by
    iintro ⟨HR, Ha⟩
    ihave HI := (rec_at m K c k) $$ HR
    icases HI with ⟨HI, -⟩
    iapply (Rounds.cell_close ER (Rd m) (Set.mem_univ (K (c, k))) (fun h => h) (R := 0 + 1) (duties_later m (kc c k)))
    isplitl [HI] <;> iassumption
  exact (bigSep_with_persistent fun k _ => h k).trans (bigSep_fupd _ _)

theorem wp_device (k : Dev nD → P F PUnit) (Q : PUnit → sProp 𝕄) : WP c (.op .deviceId k) Q = WP c (k c) Q := by
  simp only [wp_deviceId]

theorem run_prog : bodyPre m K c ⊢ WP c prog fun _ => bodyPost m c := by
  rw [show WP c (prog (F := F)) (fun _ => bodyPost m c) = WP c (progAt c) fun _ => bodyPost m c from
    (congrArg (fun p => WP c p fun _ => bodyPost m c) (Prog.bind_lift _ _)).trans (wp_device c progAt _)]
  unfold progAt
  unfold bodyPre payToks creds arrs scr
  rw [over_cells, over_own]
  iintro ⟨H, ⟨Hab, Hax, Hao, Haw, Haout, Has, Har⟩, ⟨Htx, Hto, Htw, Htout, Hts, Htr, Htb⟩, ⟨Hcb, Hcr⟩, ⟨Hx, Hw, Hy⟩, Hxb, Hwb, Hsb, Hrb, Hob⟩
  ihave Hy := (y_split c) $$ Hy
  icases Hy with ⟨Hyo, Hys⟩
  ihave Hob := ((out_split c).trans (Entails.of_eq (last_slot _))) $$ Hob
  icases Hob with ⟨Ho7, Hos⟩
  iapply (load m K c _ _)
  unfold preA
  isplitl [H Hx Hw Hxb Hwb Hrb Htx Hax Htw Haw Htb]
  · isplitl [H]; · iexact H
    isplitl [Hx]; · iexact Hx
    isplitl [Hw]; · iexact Hw
    isplitl [Hxb]; · iexact Hxb
    isplitl [Hwb]; · iexact Hwb
    isplitl [Hrb]; · iexact Hrb
    isplitl [Htx Hax]
    · isplitl [Htx] <;> iassumption
    isplitl [Htw]; · iexact Htw
    isplitl [Haw]; · iexact Haw
    iexact Htb
  unfold postA
  iintro ⟨H, Hx, Hw, Hxb, Hwb, Hax, Haw⟩
  iapply (send m K c _ _)
  unfold preB
  isplitl [H Hxb Hwb Hcb Hab Hsb Hts Htr Ho7 Hyo Hto]
  · isplitl [H]; · iexact H
    isplitl [Hxb]; · iexact Hxb
    isplitl [Hwb]; · iexact Hwb
    isplitl [Hcb Hab]
    · isplitl [Hcb] <;> iassumption
    isplitl [Hsb]; · iapply (send_split c); iexact Hsb
    isplitl [Hts]; · iexact Hts
    isplitl [Htr]; · iexact Htr
    isplitl [Ho7]; · iexact Ho7
    isplitl [Hyo] <;> iassumption
  unfold postB
  iintro ⟨H, Hxb, Hwb, Hab, Hcs, Hco⟩
  iapply (receive m K c _)
  unfold preC drainA
  simp only [bigSep_sep']
  isplitl [H Hcr Har Hos Hys Htout Haout Hco Hao Hcs Has]
  · isplitl [H]; · iexact H
    isplitl [Hcr Har Hos Hys Htout]
    · isplitl [Hcr]; · iexact Hcr
      isplitl [Har]; · iexact Har
      isplitl [Hos]; · iexact Hos
      isplitl [Hys] <;> iassumption
    isplitl [Haout]; · iexact Haout
    isplitl [Hco Hao]
    · isplitl [Hco] <;> iassumption
    isplitl [Hcs] <;> iassumption
  unfold postC st
  iintro ⟨⟨#HR, -, HO⟩, Har, Hrb, Haout, Hy, Hob, Hao, Has, Hsb⟩
  ihave Hcl := (close_cells m K c) $$ [Hab Hax Hao Haw Haout Has Har]
  · isplitr; · iexact HR
    rw [over_cells, over_own]
    isplitl [Hab]; · iexact Hab
    isplitl [Hax]; · iexact Hax
    isplitl [Hao]; · iexact Hao
    isplitl [Haw]; · iexact Haw
    isplitl [Haout]; · iexact Haout
    isplitl [Has] <;> iassumption
  rw [show (pure ⟨⟩ : P F PUnit) = .ret ⟨⟩ from rfl]
  unfold WP
  rw [wp_ret]
  imod Hcl with Hcl
  imodintro
  unfold bodyPost arrs' scr
  isplitl [HO]; · iexact HO
  isplitl [Hcl]; · iexact Hcl
  isplitl [Hx Hw Hy]
  · isplitl [Hx]; · iexact Hx
    isplitl [Hw] <;> iassumption
  isplitl [Hxb]; · iexact Hxb
  isplitl [Hwb]; · iexact Hwb
  isplitl [Hsb]; · iexact Hsb
  isplitl [Hrb] <;> iassumption

end Cert.KernelIdeal.Pf

end
-- ==== Proof.KernelIdeal.Ghost.lean ====
/- The launch: the cells of every device opened at once, the tokens dealt to the devices that pay the duties, and the
   credit of what is owed. -/
module

public import proofs.«01_k».proof.Proof.KernelIdeal.Body
public import proofs.«01_k».proof.Proof.Gen.KernelIdeal.Launch

@[expose] public section

set_option synthInstance.maxSize 4096

noncomputable section

namespace Cert.KernelIdeal.Pf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

/-! ## Cells and tokens as minted -/

theorem kc_injective : Function.Injective fun ck : Dev nD × Cl => kc ck.1 ck.2 := by
  rintro ⟨c, k⟩ ⟨c', k'⟩ h
  have h₁ : c = c' := congrArg (fun g : GSem nD τ sig => g.1.1) h
  have h₂ : k = k' := csem_inj (congrArg Prod.snd h)
  rw [h₁, h₂]
def allCells : Finset (GSem nD τ sig) := Finset.univ.map ⟨fun ck : Dev nD × Cl => kc ck.1 ck.2, kc_injective⟩

/-- A device's cells' duties: the barrier's seven, and each own cell's one. -/
abbrev Du : Type := Fin 7 ⊕ Ow
def tokOf (cj : Dev nD × Du) : GSem nD τ sig × ℕ × Fin 7 := match cj.2 with
  | .inl d => (kc cj.1 Cl.bar, 0, d)
  | .inr o => (kc cj.1 (.inr o), 0, 0)
theorem tokOf_injective : Function.Injective tokOf := by
  have hk {c c' : Dev nD} {k k' : Cl} {d d' : Fin 7} (h : (kc c k, 0, d) = ((kc c' k', 0, d') : GSem nD τ sig × ℕ × Fin 7)) :
      c = c' ∧ k = k' ∧ d = d' := by
    have h₁ := kc_injective (a₁ := (c, k)) (a₂ := (c', k')) (congrArg Prod.fst h)
    exact ⟨congrArg Prod.fst h₁, congrArg (Prod.snd (α := Dev nD)) h₁, congrArg (fun x : GSem nD τ sig × ℕ × Fin 7 => x.2.2) h⟩
  rintro ⟨c, j | o⟩ ⟨c', j' | o'⟩ h
  · obtain ⟨h₁, -, h₃⟩ := hk h; exact Prod.ext h₁ (congrArg Sum.inl h₃)
  · exact absurd (hk h).2.1 Sum.inl_ne_inr
  · exact absurd (hk h).2.1 Sum.inr_ne_inl
  · obtain ⟨h₁, h₂, -⟩ := hk h; exact Prod.ext h₁ (congrArg Sum.inr (Sum.inr_injective h₂))
def allToks : Finset (GSem nD τ sig × ℕ × Fin 7) := Finset.univ.map ⟨tokOf, tokOf_injective⟩

def u₀ : UU :=
  (initOf (Pipeline.cells cfgs cellOf_inj) (Pipeline.launchToks cfgs cellOf_inj), initOf allCells allToks)

/-- The tokens of the duties of device `c`'s own cells. -/
def toks (c : Dev nD) : sProp 𝕄 := iprop((bigSep Finset.univ fun d => tok c Cl.bar d) ∗ bigSep Finset.univ fun o : Ow => tok c (.inr o) 0)

/-- What the launch deals device `c`, -/
def G (c : Dev nD) : sProp 𝕄 :=
  iprop((bigSep Finset.univ fun k : Cl => roundState ER (Rd m) (kc c k) 0)
    ∗ (bigSep Finset.univ fun k : Cl => iprop(at0 c k ∗ reached ER (kc c k) 0)) ∗ toks c)
/-- and what that becomes once every cell is open. -/
def G' (c : Dev nD) : sProp 𝕄 := iprop(∃ K, recs m K ∗ (bigSep Finset.univ fun k : Cl => at0 c k) ∗ payToks c)

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Cl => Φ (kc c k) := by
    unfold allCells; rw [BI.bigSep_map, BI.bigSep_univ_prod]; rfl
  have hT : bigSep allToks (fun x => (dutyTok ER x.1 x.2.1 x.2.2 : sProp 𝕄)) = bigSep Finset.univ fun c : Dev nD => toks c := by
    unfold allToks; rw [BI.bigSep_map, BI.bigSep_univ_prod]
    exact bigSep_congr fun c _ => by unfold toks; rw [BI.bigSep_univ_sum]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Opening the cells -/

theorem ownSemFacts : Pipeline.OwnSemFacts cfg0.spec osem := by decide

/-- The barrier's counter is the one semaphore that outlives the call; the others are the call's own. -/
theorem unscopedSems0_eq (c : Dev nD) : (unscopedSems0 c : sProp 𝕄) = semVal (kc c Cl.bar) 0 := by
  unfold unscopedSems0; rw [bigSep_eq_bigSepL_of_eq [SemLoc.reg barSem] (by decide) (by decide)]; rfl

theorem sems0_eq (c : Dev nD) :
    (bigSep Finset.univ fun k : Cl => semVal (kc c k) 0 : sProp 𝕄)
      = iprop(unscopedSems0 c ∗ Pipeline.ownSems0 (Ix := Unit) (Name := ℕ) (U := UU) (Lvl := ℕ) (Val := Elt F) (τ := τ) osem c) := by
  rw [over_cells, unscopedSems0_eq]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kc c k)))
          ∗ (bigSep Finset.univ fun k => iprop(at0 c k ∗ reached ER (kc c k) 0)) ∗ toks c) := by
  have hopen : iprop((bigSep Finset.univ fun k : Cl => semVal (kc c k) 0) ∗ bigSep Finset.univ fun k : Cl => roundState ER (Rd m) (kc c k) 0)
      ⊢ (|={Set.univ}=> bigSep Finset.univ fun k => iprop(∃ κ : ℕ, cellInv ER (Rd m) κ (kc c k)) : sProp 𝕄) := by
    rw [← bigSep_sep']
    exact (bigSep_mono fun k _ => (Rounds.body_intro ER (Rd m) (kc c k)).trans inv_alloc).trans (bigSep_fupd _ _)
  unfold G
  iintro ⟨Hos, Hus, Hst, Hat, Htok⟩
  imod hopen $$ [Hos Hus Hst] with Hinv
  · isplitl [Hos Hus]
    · rw [sems0_eq]; isplitl [Hus] <;> iassumption
    iexact Hst
  imodintro
  isplitl [Hinv]; · iexact Hinv
  isplitl [Hat] <;> iassumption

/-- Exchanging along the partners of each step changes no family over devices and steps. -/
theorem exchange (A : Dev nD → Fin 7 → sProp 𝕄) :
    (bigSep Finset.univ fun c => bigSep Finset.univ fun s => A c s) = bigSep Finset.univ fun c => bigSep Finset.univ fun s => A (peer c s) s := by
  let e : Dev nD × Fin 7 ≃ Dev nD × Fin 7 :=
    ⟨fun x => (peer x.1 x.2, x.2), fun x => (peer x.1 x.2, x.2), fun x => by simp [peer_peer], fun x => by simp [peer_peer]⟩
  rw [← BI.bigSep_univ_prod fun x : Dev nD × Fin 7 => A x.1 x.2, ← BI.bigSep_univ_prod fun x : Dev nD × Fin 7 => A (peer x.1 x.2) x.2,
    bigSep_univ_equiv e fun x : Dev nD × Fin 7 => A x.1 x.2]
  rfl

/-- The tokens dealt to the devices that pay. -/
theorem toks_around : (bigSep Finset.univ fun c : Dev nD => (toks c : sProp 𝕄)) ⊢ bigSep Finset.univ fun c : Dev nD => payToks c := by
  unfold toks payToks
  simp only [over_own, bigSep_sep']
  rw [exchange (F := F) fun c d => tok c Cl.bar d, exchange (F := F) fun c s => tok c (Cl.rcv s) 0]
  iintro ⟨Hb, Hx, Ho, Hw, Hout, Hs, Hr⟩
  isplitl [Hx]; · iexact Hx
  isplitl [Ho]; · iexact Ho
  isplitl [Hw]; · iexact Hw
  isplitl [Hout]; · iexact Hout
  isplitl [Hs]; · iexact Hs
  isplitl [Hr] <;> iassumption

theorem regroup :
    (bigSep Finset.univ fun c : Dev nD => iprop((bigSep Finset.univ fun k => iprop(∃ κ : ℕ, cellInv ER (Rd m) κ (kc c k)))
          ∗ (bigSep Finset.univ fun k => iprop(at0 c k ∗ reached ER (kc c k) 0)) ∗ toks c) : sProp 𝕄)
      ⊢ bigSep Finset.univ (G' m) := by
  have hg (K : Dev nD × Cl → ℕ) (c : Dev nD) : iprop(recs m K ∗ (bigSep Finset.univ fun k : Cl => at0 c k) ∗ payToks c) ⊢ G' m c := by
    unfold G'; iintro H; iexists K; iexact H
  rw [bigSep_sep', bigSep_sep', ← BI.bigSep_univ_prod (fun ck : Dev nD × Cl => iprop(∃ κ : ℕ, cellInv ER (Rd m) κ (kc ck.1 ck.2))),
    bigSep_congr (s := Finset.univ) (fun (c : Dev nD) _ => bigSep_sep' Finset.univ (fun k : Cl => (at0 c k : sProp 𝕄)) (fun k => reached ER (kc c k) 0)),
    bigSep_sep', ← BI.bigSep_univ_prod (fun ck : Dev nD × Cl => (reached ER (kc ck.1 ck.2) 0 : sProp 𝕄))]
  iintro ⟨HI, ⟨Hat, #HR⟩, Htok⟩
  ihave HK := (BI.bigSep_exists_pi Finset.univ (fun (ck : Dev nD × Cl) (κ : ℕ) => (cellInv ER (Rd m) κ (kc ck.1 ck.2) : sProp 𝕄))) $$ HI
  icases HK with ⟨%K, #HI⟩
  ihave Htk := (toks_around (F := F)) $$ Htok
  iapply (bigSep_with_persistent (R := recs m K) fun c _ => hg K c)
  isplitr
  · unfold recs; rw [bigSep_sep']
    isplitr; · iexact HI
    iexact HR
  · rw [bigSep_sep']
    isplitl [Hat] <;> iassumption

/-- Every device's cells open at once. -/
theorem glob : (bigSep Finset.univ fun c => iprop(Pipeline.ownSems0 (Ix := Unit) (Name := ℕ) (U := UU) (Lvl := ℕ) (Val := Elt F) (τ := τ) osem c
      ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit of what is owed -/

/-- What the other devices owe device `c`'s cells. -/
def due (c : Dev nD) : CellTallies nD τ sig Unit :=
  (∑ s, tallyAt (kc c (Cl.rcv s)) () (amt (Cl.rcv s))) + tallyAt (kc c Cl.bar) () 7

theorem oweR_sum (c : Dev nD) : oweR c steps = ∑ s, tallyAt (kc (peer c s) (Cl.rcv s)) () (amt (Cl.rcv s)) := by
  unfold oweR; exact (Fin.sum_univ_def _).symm
theorem oweB_sum (c : Dev nD) : oweB c devs = ∑ j, if j = c then 0 else tallyAt (kc j Cl.bar) () 1 := by
  unfold oweB; exact (Fin.sum_univ_def _).symm

/-- Seven devices each owe a barrier cell one unit. -/
theorem bar_due (j : Dev nD) : (∑ c : Dev nD, if j = c then 0 else tallyAt (kc j Cl.bar) () 1)
    = (tallyAt (kc j Cl.bar) () 7 : CellTallies nD τ sig Unit) := by
  rw [Finset.sum_ite, Finset.sum_const_zero, zero_add, Finset.sum_const,
    show (Finset.univ.filter fun c : Dev nD => ¬ j = c).card = 7 by revert j; decide]
  simp only [succ_nsmul, zero_nsmul, zero_add, tallyAt_add, Nat.reduceAdd]

theorem owed_due : (∑ c, O₀ c) = ∑ c, due c := by
  have hR : (∑ c : Dev nD, oweR c steps) = ∑ c : Dev nD, ∑ s, tallyAt (kc c (Cl.rcv s)) () (amt (Cl.rcv s)) := by
    simp only [oweR_sum]
    rw [Finset.sum_comm, Finset.sum_comm (s := (Finset.univ : Finset (Dev nD)))]
    refine Finset.sum_congr rfl fun s _ => ?_
    exact Equiv.sum_comp (Function.Involutive.toPerm (fun c => peer c s) fun c => peer_peer c s)
      fun c => (tallyAt (kc c (Cl.rcv s)) () (amt (Cl.rcv s)) : CellTallies nD τ sig Unit)
  have hB : (∑ c : Dev nD, oweB c devs) = ∑ c : Dev nD, tallyAt (kc c Cl.bar) () 7 := by
    simp only [oweB_sum]
    rw [Finset.sum_comm]
    exact Finset.sum_congr rfl fun j _ => bar_due j
  unfold O₀ due
  rw [Finset.sum_add_distrib, Finset.sum_add_distrib, hR, hB]

theorem due_at (d : Dev nD) (g : GSem nD τ sig) (h : due d g ≠ 0) : g.1 = (d : Thread nD τ) := by
  by_contra hg
  refine h ?_
  unfold due
  rw [Pi.add_apply, Finset.sum_apply, Finset.sum_eq_zero fun s _ => tallyAt_ne_cell (fun e => hg (congrArg Prod.fst e)) _ _,
    tallyAt_ne_cell (fun e => hg (congrArg Prod.fst e)), add_zero]

theorem creds_intro (c : Dev nD) : (Pipeline.launchCred O₀ c : sProp 𝕄) ⊢ creds c := by
  rw [Pipeline.launchCred_of_sum O₀ due owed_due due_at c]
  unfold due creds
  rw [← Pipeline.cred_finsetSum]
  iintro H
  ihave H := (cred_add _ _).1 $$ H
  icases H with ⟨Hs, Hb⟩
  isplitl [Hb] <;> iassumption

end Cert.KernelIdeal.Pf

end
-- ==== Proof.KernelIdeal.Run.lean ====
/- The run of the launch: every device's result array ends holding, row block by row block, the tile computed here and
   the tiles received; the arguments are unchanged and every counter is zero. -/
module

public import proofs.«01_k».proof.Proof.KernelIdeal.Ghost

@[expose] public section

set_option synthInstance.maxSize 4096

noncomputable section

namespace Cert.KernelIdeal.Pf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The one grid point -/

/-- What a device starts the call with, its buffers apart, -/
def start (c : Dev nD) : sProp 𝕄 := iprop(G' m c ∗ creds c ∗ levAts L lv ∗ arrs m c)
/-- what the body takes, -/
def Φ₀ (c : Dev nD) : sProp 𝕄 := iprop(start m c ∗ scr c)
/-- and what it leaves. -/
def Φ₁ (c : Dev nD) : sProp 𝕄 := iprop((bigSep Finset.univ fun k : Cl => semVal (kc c k) 0) ∗ arrs' m c ∗ scr c)

/-- No window: the arrays are the body's own business. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

theorem no_windows (A : Fin cfg0.W → sProp 𝕄) : bigSep Finset.univ A = iprop(emp) := by
  rw [show (Finset.univ : Finset (Fin cfg0.W)) = ∅ from Finset.univ_eq_empty (α := Fin 0), BI.bigSep_empty]
  rfl

/-- The body, from the assertion before the grid point to the one after it. -/
theorem run_body (c : Dev nD) :
    iprop(Φ₀ m c ∗ ∃ W, owes (c : Thread nD τ) (O₀ c) W) ⊢ WP c prog fun _ => iprop(Φ₁ m c ∗ ∃ W, owes (c : Thread nD τ) 0 W) := by
  have hpost : ∀ _ : PUnit, bodyPost m c ⊢ iprop(Φ₁ m c ∗ ∃ W, owes (c : Thread nD τ) 0 W) := fun _ => by
    unfold bodyPost Φ₁
    iintro ⟨HO, Hz, Ha, Hs⟩
    isplitr [HO]
    · isplitl [Hz]; · iexact Hz
      isplitl [Ha] <;> iassumption
    · iexact HO
  have hpre : iprop(Φ₀ m c ∗ ∃ W, owes (c : Thread nD τ) (O₀ c) W) ⊢ iprop(∃ K, bodyPre m K c) := by
    unfold Φ₀ start G' bodyPre st
    iintro ⟨⟨⟨⟨%K, HR, Hat, Ht⟩, Hc, Hl, Ha⟩, Hs⟩, HO⟩
    iexists K
    isplitl [HR Hl HO]
    · isplitl [HR]; · iexact HR
      isplitl [Hl] <;> iassumption
    isplitl [Hat]; · iexact Hat
    isplitl [Ht]; · iexact Ht
    isplitl [Hc]; · iexact Hc
    isplitl [Ha] <;> iassumption
  refine hpre.trans ?_
  iintro ⟨%K, H⟩
  iapply ((run_prog m K c).trans (wp_mono _ _ _ hpost)) $$ H

theorem body_obligation (c : Dev nD) : BodyObligation (dats (F := F) m 0 c) (defs₀ (F := F)) 𝒱₀ () Set.univ := fun t => by
  have ht : t = t0_0 := fin_N0 t
  subst ht
  rw [no_windows, no_windows]
  show iprop(Φ₀ m c ∗ (dats m 0 c).owesAt () (Fin.castSucc t0_0) ∗ emp) ⊢ WP c (bodyAt0 (F := F) t0_0)
    fun _ => iprop(Φ₁ m c ∗ (dats m 0 c).owesAt () (Fin.succ t0_0) ∗ emp)
  rw [body_eq]
  have hin : iprop(Φ₀ m c ∗ (dats m 0 c).owesAt () (Fin.castSucc t0_0) ∗ emp) ⊢ iprop(Φ₀ m c ∗ ∃ W, owes (c : Thread nD τ) (O₀ c) W) := by
    unfold Dat.owesAt Pipeline.owesWithin
    rw [show (dats m 0 c).owed (Fin.castSucc t0_0) = O₀ c from rfl]
    iintro ⟨H, ⟨%W, -, HO⟩, -⟩
    isplitl [H]; · iexact H
    iexists W; iexact HO
  have hout : ∀ _ : PUnit, iprop(Φ₁ m c ∗ ∃ W, owes (c : Thread nD τ) 0 W) ⊢ iprop(Φ₁ m c ∗ (dats m 0 c).owesAt () (Fin.succ t0_0) ∗ emp) := fun _ => by
    unfold Dat.owesAt Pipeline.owesWithin
    rw [show (dats m 0 c).owed (Fin.succ t0_0) = 0 from rfl]
    iintro ⟨H, ⟨%W, HO⟩⟩
    isplitl [H]; · iexact H
    isplitl [HO]
    · iexists W
      isplitr; · ipureintro; exact fun _ _ => Or.inl trivial
      iexact HO
    iempintro
  exact (hin.trans (run_body m c)).trans (wp_mono _ _ _ hout)

/-! ## In and out of the call -/

theorem arr_owns (c : Dev nD) (b : Ref sig .tc) (X : b.ty.Contents (Elt F)) :
    (((c : Thread nD τ).loc b) ↦{fullShare} X : sProp 𝕄) ⊢ owns (c : Thread nD τ) (Memref.whole b) fullShare X := by
  unfold owns; simp only [Memref.view_whole, View.read_whole, View.set_whole]
  iintro H
  iexists X
  isplitr; · ipureintro; rfl
  iexact H

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Hw, Hy⟩, Hl, Hc, -, HG⟩
  ihave Hc := (creds_intro (F := F) c) $$ Hc
  imodintro
  unfold start arrs
  isplitl
  · isplitl [HG]; · iexact HG
    isplitl [Hc]; · iexact Hc
    isplitl [Hl]; · iexact Hl
    isplitl [Hx]; · iapply (arr_owns c main_arg0 (xVal m c)); iexact Hx
    isplitl [Hw]; · iapply (arr_owns c main_arg1 (wVal m c)); iexact Hw
    iapply (any_intro c yOut (m ((c : Thread nD τ).loc main_v1)))
    iapply (arr_owns c main_v1 _); iexact Hy
  · iempintro

theorem scr_eq (c : Dev nD) : (scr c : sProp 𝕄) = Pipeline.scopedRest cfg0.spec c := by
  rw [scopedRest0_eq]; unfold scr; simp only [any_whole]

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, ← scr_eq]
  unfold Φ₀
  iintro ⟨Hs, -, Hr⟩
  isplitl [Hs] <;> iassumption

theorem leave (c : Dev nD) :
    (dats m 0 c).Φ (Fin.last cfg0.N) ⊢ iprop((unscopedSems0 c ∗ arrs' m c) ∗ Pipeline.ownSems0 osem c ∗ Pipeline.scopedRest cfg0.spec c) := by
  rw [show (dats m 0 c).Φ (Fin.last cfg0.N) = Φ₁ m c from rfl, ← scr_eq]
  unfold Φ₁
  rw [sems0_eq]
  iintro ⟨⟨Hu, Ho⟩, Ha, Hs⟩
  isplitl [Hu Ha]
  · isplitl [Hu] <;> iassumption
  isplitl [Ho] <;> iassumption

theorem waits (c : Dev nD) : (levAts L lv : sProp 𝕄) ⊢ Pipeline.cellsWaits cfgs (dats m) () 0 c :=
  Pipeline.cellsWaits_intro cfgs (dats m) () 0 c fun w _ _ => w.elim0

/-! ## Reading the final memory -/

theorem owns_read {sp : Space} {s : Shape} {e : EltTy} (c : Dev nD) (r : Memref sig .tc sp s e) (X : s.Idx → Elt F e) (st : Phys nD τ sig (Elt F)) :
    iprop(owns (c : Thread nD τ) r fullShare X ∗ SI st) ⊢ (⌜r.view.read (Elt F) (st.mem.mem (r.view.loc (c : Thread nD τ))) = X⌝ : sProp 𝕄) := by
  unfold owns
  iintro ⟨⟨%f, %hf, H⟩, HSI⟩
  ihave %h := (SI_pointsTo_agree (st := st)) $$ [HSI H]
  · isplitl [HSI] <;> iassumption
  ipureintro
  rw [← hf]
  exact View.read_congr h

/-- What device `c` ends with. -/
def Ends (c : Dev nD) (μ : MemSt nD τ sig (Elt F)) : Prop :=
  μ.mem ((c : Thread nD τ).loc main_arg0) = m ((c : Thread nD τ).loc main_arg0)
    ∧ μ.mem ((c : Thread nD τ).loc main_arg1) = m ((c : Thread nD τ).loc main_arg1)
    ∧ (yRows c).view.read (Elt F) (μ.mem ((c : Thread nD τ).loc main_v1)) = ownTile m c
    ∧ ∀ s, (yRows (peer c s)).view.read (Elt F) (μ.mem ((c : Thread nD τ).loc main_v1)) = gotTile m c s

theorem arrs_read (c : Dev nD) (st : Phys nD τ sig (Elt F)) : iprop(arrs' m c ∗ SI st) ⊢ (<pers> ⌜Ends m c st.mem⌝ : sProp 𝕄) := by
  have hall : iprop((bigSep Finset.univ fun s => owns (c : Thread nD τ) (yRows (peer c s)) fullShare (gotTile m c s)) ∗ SI st)
      ⊢ (⌜∀ s, (yRows (peer c s)).view.read (Elt F) (st.mem.mem ((c : Thread nD τ).loc main_v1)) = gotTile m c s⌝ : sProp 𝕄) :=
    fun x hx s => (((BIClass.sep_mono (bigSep_elim (Finset.mem_univ s)) .rfl).trans (owns_read c (yRows (peer c s)) (gotTile m c s) st)) x hx)
  have h : iprop(arrs' m c ∗ SI st) ⊢ (⌜Ends m c st.mem⌝ : sProp 𝕄) := by
    unfold arrs'
    iintro ⟨⟨Hx, Hw, Hy, Hys⟩, HSI⟩
    ihave %h₁ := ((owns_read c xIn (xVal m c) st).trans Laws.persistently_pure.2) $$ [Hx HSI]
    · isplitl [Hx] <;> iassumption
    ihave %h₂ := ((owns_read c wIn (wVal m c) st).trans Laws.persistently_pure.2) $$ [Hw HSI]
    · isplitl [Hw] <;> iassumption
    ihave %h₃ := ((owns_read c (yRows c) (ownTile m c) st).trans Laws.persistently_pure.2) $$ [Hy HSI]
    · isplitl [Hy] <;> iassumption
    ihave %h₄ := (hall.trans Laws.persistently_pure.2) $$ [Hys HSI]
    · isplitl [Hys] <;> iassumption
    ipureintro
    exact ⟨h₁, h₂, h₃, h₄⟩
  exact h.trans Laws.persistently_pure.2

/-! ## The run -/

set_option maxRecDepth 8000 in
theorem run_main : θ_run defs (onTc (τ := τ) (main (F := F))) ⟨m, fun _ => 0, ρ⟩ (fun r => (∀ c, Ends m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ w => w.elim0) (hpf := fun _ k => k.elim0)
    (X := start m) (Y := fun c => iprop(unscopedSems0 c ∗ arrs' m c)) (Z := fun _ => iprop(emp))
    (hX := start_intro m ρ) (hin := enter m) (hout := leave m)
    (QY := fun c s => Ends m c s ∧ ∀ sm : SemLoc sig, sm.isScoped .tc = false → s.sem ((c.tc : Thread nD τ), sm) = 0)
    (hY := fun c s' => by
      iintro ⟨⟨Hu, Ha⟩, -, HSI⟩
      ihave %h := (arrs_read m c s') $$ [Ha HSI]
      · isplitl [Ha] <;> iassumption
      ihave %hz := (tcUnscoped_read c s') $$ [Hu HSI]
      · isplitl [Hu] <;> iassumption
      imodintro
      isplitr [HSI]; · ipureintro; exact ⟨h, hz⟩
      iexact HSI)
    (hQ := fun _ h hs => ⟨fun c => (h c).2.2.1, sem_eq_zero hs fun c => (h c).2.2.2⟩)

end Cert.KernelIdeal.Pf

end
-- ==== Proof.Value.Spec.lean ====
/- What the whole computation is, entry by entry, in exact arithmetic: the activation of the product of `x` and `w`;
   and where the blocks the devices hold lie in the arrays. -/
module

public import Idealize.ShloMosaic.PureOps.Ideal
public import Idealize.ShloMosaic.PureOps.Ideal.Laws
public import Idealize.ShloMosaic.Lib.Layout
public import Idealize.ShloMosaic.Lib.MatmulPlain
public import Idealize.ShloMosaic.Lib.StackMember

@[expose] public section

noncomputable section

namespace Cert.Value

open Idealize.ShloMosaic Idealize.ShloMosaic.ValueIdx

/-- A square matrix of 1024 rows. -/
abbrev Whole : Shape := ⟨2, ![1024, 1024]⟩

/-- The activation of a number: `a·y·(b + tanh(c·(y + d·y³)))` at the four constants of the program's text. -/
def gelu (y : EReal) : EReal :=
  Ideal.ofBits .f32 0x3F000000#32 * y * (Ideal.ofBits .f32 0x3F800000#32
    + Ideal.tanh (Ideal.ofBits .f32 0x3F4C422A#32 * (y + Ideal.ofBits .f32 0x3D372713#32 * (y * y * y))))

/-- The cube may be multiplied into its coefficient one factor at a time. -/
theorem gelu_stepwise (y : EReal) : gelu y = Ideal.ofBits .f32 0x3F000000#32 * y * (Ideal.ofBits .f32 0x3F800000#32
    + Ideal.tanh (Ideal.ofBits .f32 0x3F4C422A#32 * (y + Ideal.ofBits .f32 0x3D372713#32 * y * y * y))) := by
  unfold gelu
  rw [← mul_assoc, ← mul_assoc]

/-- An entry of the product of `x` and `w`. -/
def dot (x w : Whole.Idx → EReal) (r l : Fin 1024) : EReal := ∑ k : Fin 1024, x (ix2 r k) * w (ix2 k l)

/-- The activation of the product of `x` and `w`. -/
def spec (x w : Whole.Idx → EReal) : Whole.Idx → EReal := fun j => gelu (dot x w (j 0) (j 1))

/-! ## Blocks of 128 -/

/-- Position `r` of block `b`. -/
def pos (b : Fin 8) (r : Fin 128) : Fin 1024 := ⟨128 * b.val + r.val, by omega⟩

/-- Every position is one of a block. -/
theorem pos_surj (i : Fin 1024) : ∃ b r, pos b r = i :=
  ⟨⟨i.val / 128, by omega⟩, ⟨i.val % 128, Nat.mod_lt _ (by decide)⟩, Fin.ext (Nat.div_add_mod i.val 128)⟩

/-- Eight blocks of 128 rows are the whole. -/
theorem rowTiles : Layout.Tiles ⟨2, ![128, 1024]⟩ Whole 0 8 := by decide

/-- Eight blocks of 128 columns are the whole. -/
theorem colTiles : Layout.Tiles ⟨2, ![1024, 128]⟩ Whole 1 8 := by decide

/-- Row block `b` of a matrix, at an index. -/
theorem row_block {α : Type} (b : Fin 8) (x : Whole.Idx → α) (r : Fin 128) (k : Fin 1024) :
    Layout.block ⟨2, ![128, 1024]⟩ Whole 0 8 b x rowTiles (ix2 r k) = x (ix2 (pos b r) k) := by
  refine congrArg x (funext fun a => Fin.ext ?_)
  match a with
  | ⟨0, _⟩ => exact congrArg (· + r.val) (Nat.mul_comm b.val 128)
  | ⟨1, _⟩ => rfl

/-- Column block `c` of a matrix, at an index. -/
theorem col_block {α : Type} (c : Fin 8) (x : Whole.Idx → α) (r : Fin 1024) (l : Fin 128) :
    Layout.block ⟨2, ![1024, 128]⟩ Whole 1 8 c x colTiles (ix2 r l) = x (ix2 r (pos c l)) := by
  refine congrArg x (funext fun a => Fin.ext ?_)
  match a with
  | ⟨0, _⟩ => rfl
  | ⟨1, _⟩ => exact congrArg (· + l.val) (Nat.mul_comm c.val 128)

end Cert.Value

end
-- ==== Proof.Value.Tile.lean ====
/- The kernel's side in exact arithmetic: a tile is the whole computation's entries at one row block and one column
   block, so a device's result array is its column block of the whole. -/
module

public import proofs.«01_k».proof.Proof.Value.Spec
public import proofs.«01_k».proof.Proof.KernelIdeal.Run

@[expose] public section

set_option synthInstance.maxSize 4096

noncomputable section

namespace Cert.Value

open Idealize.ShloMosaic Idealize.ShloMosaic.TcCoe Idealize.ShloMosaic.ValueIdx
open Cert.KernelIdeal Cert.KernelIdeal.Gen Cert.KernelIdeal.Pf

/-- A tile, at an index. -/
theorem tile_apply (x : Vec Ideal S128x1024 .bf16) (w : Vec Ideal S1024x128 .bf16) (r l : Fin 128) :
    tile (F := Ideal) x w (ix2 r l) = gelu (∑ k : Fin 1024, x (ix2 r k) * w (ix2 k l)) := by
  have hy : matmul (F := Ideal) (φ₁ := .bf16) (φ₂ := .bf16) dot_S128x1024_S1024x128_S128x128_1_0_0_1_n_n none x w (constant S128x128 .f32 0x00000000#32) (ix2 r l)
      = ∑ k : Fin 1024, x (ix2 r k) * w (ix2 k l) := by
    refine (Ideal.matmul_plain_apply (M := 128) (K := 1024) (N := 128) none x w _ r l).trans ?_
    show Ideal.ofBits .f32 0x00000000#32 + _ = _
    rw [Ideal.ofBits_zero_f32, zero_add]
  rw [gelu_stepwise, ← hy]
  rfl

/-- A block of columns of a matrix, at an index. -/
theorem cols_emb (p : Fin 8) (off : Fin S1024x1024.rank → ℕ) (h : off = ![0, 128 * p.val])
    (inb : ∀ a, off a + S1024x128.size a ≤ S1024x1024.size a) (k : Fin 1024) (l : Fin 128) :
    (Rect.unit (s := S1024x1024) off S1024x128.size inb).emb (ix2 k l) = ix2 k (pos p l) := by
  subst h
  refine funext fun a => Fin.ext ?_
  match a with
  | ⟨0, _⟩ => show 0 + 1 * k.val = k.val; omega
  | ⟨1, _⟩ => show 128 * p.val + 1 * l.val = 128 * p.val + l.val; omega

/-- A row block of the result, at an index. -/
theorem rows_emb (b : Fin 8) (r l : Fin 128) : (yRect b).emb (ix2 r l) = ix2 (pos b r) l := by
  refine funext fun a => Fin.ext ?_
  match a with
  | ⟨0, _⟩ => show 128 * b.val + 1 * r.val = 128 * b.val + r.val; omega
  | ⟨1, _⟩ => show 0 + 1 * l.val = l.val; omega

variable (m : (ℓ : Loc nD τ sig) → Buf (Elt Ideal) ℓ) (x w : Whole.Idx → EReal)
  (hx : ∀ d : Dev nD, m ((d : Thread nD τ).loc main_arg0) = Layout.block ⟨2, ![128, 1024]⟩ Whole 0 8 d x rowTiles)
  (hw : ∀ d : Dev nD, m ((d : Thread nD τ).loc main_arg1) = w)

include hx hw

/-- The tile of device `d`'s rows and column block `p`. -/
theorem tile_spec (d p : Dev nD) (off : Fin S1024x1024.rank → ℕ) (h : off = ![0, 128 * p.val])
    (inb : ∀ a, off a + S1024x128.size a ≤ S1024x1024.size a) (r l : Fin 128) :
    tile (F := Ideal) (xVal m d) (fun j => wVal m d ((Rect.unit (s := S1024x1024) off S1024x128.size inb).emb j)) (ix2 r l)
      = spec x w (ix2 (pos d r) (pos p l)) := by
  rw [tile_apply]
  show _ = gelu (dot x w (pos d r) (pos p l))
  refine congrArg gelu (Finset.sum_congr rfl fun k _ => ?_)
  rw [cols_emb p off h inb k l]
  refine congrArg₂ (· * ·) ?_ ?_
  · exact (congrFun (hx d) (ix2 r k)).trans (row_block d x r k)
  · exact congrFun (hw d) _

theorem ownTile_spec (c : Dev nD) (r l : Fin 128) : ownTile (F := Ideal) m c (ix2 r l) = spec x w (ix2 (pos c r) (pos c l)) :=
  tile_spec m x w hx hw c c _ (off2_eq c) _ r l

/-- The tile received is the partner's rows at this device's columns. -/
theorem gotTile_spec (c : Dev nD) (s : Fin 7) (r l : Fin 128) :
    gotTile (F := Ideal) m c s (ix2 r l) = spec x w (ix2 (pos (peer c s) r) (pos c l)) := by
  have h := tile_spec m x w hx hw (peer c s) c _ ((off1_eq (peer c s) s).trans (by rw [peer_peer])) (k0_off1_inb (peer c s) (offP s)) r l
  exact h

/-- A device's result array at the end. -/
theorem result_eq (c : Dev nD) (μ : MemSt nD τ sig (Elt Ideal)) (h : Ends m c μ) :
    μ.mem ((c : Thread nD τ).loc main_v1) = Layout.block ⟨2, ![1024, 128]⟩ Whole 1 8 c (spec x w) colTiles := by
  funext (j : S1024x128.Idx)
  obtain ⟨b, r, hr⟩ := pos_surj (j 0)
  obtain ⟨l, hl⟩ : ∃ l : Fin 128, l = j 1 := ⟨j 1, rfl⟩
  have hj : j = (yRect b).emb (ix2 r l) := by
    refine Eq.trans (funext fun a => ?_) (rows_emb b r l).symm
    match a with
    | ⟨0, _⟩ => exact hr.symm
    | ⟨1, _⟩ => exact hl.symm
  have hb : (yRows b).view.read (Elt Ideal) (μ.mem ((c : Thread nD τ).loc main_v1)) (ix2 r l) = spec x w (ix2 (pos b r) (pos c l)) := by
    by_cases hc : b = c
    · subst hc
      exact (congrFun h.2.2.1 _).trans (ownTile_spec m x w hx hw b r l)
    · obtain ⟨s, rfl⟩ := peer_surj c b hc
      exact (congrFun (h.2.2.2 s) _).trans (gotTile_spec m x w hx hw c s r l)
  rw [hj]
  exact hb.trans ((congrArg _ (rows_emb b r l)).trans (col_block c (spec x w) (pos b r) l)).symm

end Cert.Value

end
-- ==== Proof.Value.Reference.lean ====
/- The reference's side in exact arithmetic: its result is the whole computation. -/
module

public import proofs.«01_k».proof.Proof.Value.Spec
public import proofs.«01_k».proof.Proof.Gen.ReferenceIdeal.Run

@[expose] public section

noncomputable section

namespace Cert.Value

open Idealize.ShloMosaic Idealize.ShloMosaic.TcCoe Idealize.ShloMosaic.ValueIdx Idealize.SL.Sem
open Cert.ReferenceIdeal Cert.ReferenceIdeal.Gen

/-- The reference's product, at an index. -/
theorem product_apply (x w : FVec Ideal S1024x1024 .bf16) (j : S1024x1024.Idx) :
    Host.dotGeneral (F := Ideal) dot_S1024x1024_S1024x1024_S1024x1024_1_0_0_1_n_n none (extf .f32 x bitsLt_bf16_f32) (extf .f32 w bitsLt_bf16_f32) j
      = dot x w (j 0) (j 1) := by
  have hj : j = ix2 (n0 := 1024) (n1 := 1024) (j 0) (j 1) := by
    refine funext fun a => ?_
    match a with
    | ⟨0, _⟩ => rfl
    | ⟨1, _⟩ => rfl
  conv_lhs => rw [hj]
  exact StackMember.dotGeneral_plain_apply (m := 1024) (n := 1024) (k := 1024) none (extf (F := Ideal) .f32 x bitsLt_bf16_f32) (extf .f32 w bitsLt_bf16_f32) (j 0) (j 1)

/-- The reference's activation of a matrix, at an index. -/
theorem act_apply (y : FVec Ideal S1024x1024 .f32) (j : S1024x1024.Idx) :
    mulf (mulf (broadcastInDim S1024x1024 ![] bcast_S_S1024x1024 (constant (F := Ideal) S_ .f32 0x3F000000#32)) y)
      (addf (broadcastInDim S1024x1024 ![] bcast_S_S1024x1024 (constant S_ .f32 0x3F800000#32))
        (Host.tanh (mulf (broadcastInDim S1024x1024 ![] bcast_S_S1024x1024 (constant S_ .f32 0x3F4C422A#32))
          (addf y (mulf (broadcastInDim S1024x1024 ![] bcast_S_S1024x1024 (constant S_ .f32 0x3D372713#32)) (mulf (mulf y y) y)))))) j
      = gelu (y j) := rfl

/-- The reference runs, and its result is the whole computation. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v15) = spec (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (funext fun j => (act_apply _ j).trans (congrArg gelu (product_apply _ _ j))), (h c).2⟩)
    (Cert.ReferenceIdeal.Value.run (F := Ideal) m ρ)

end Cert.Value

end
-- ==== Proof.lean ====
/- The certificate's claims together. Both readings of the kernel run and leave every semaphore at zero
   (Proof/Kernel/Run.lean at machine floats, Proof/KernelIdeal/Run.lean at exact ones); the reference is a straight-line
   host program; and in exact arithmetic the kernel's result on each device is its column block of what the reference
   computes (Proof/Value/). -/
module

public import proofs.«01_k».proof.Defs
public import proofs.«01_k».proof.Proof.Kernel.Run
public import proofs.«01_k».proof.Proof.KernelIdeal.Run
public import proofs.«01_k».proof.Proof.Value.Tile
public import proofs.«01_k».proof.Proof.Value.Reference

@[expose] public section

noncomputable section

namespace Cert.Proof

open Idealize.ShloMosaic Idealize.ShloMosaic.TcCoe Idealize.SL.Sem

/-- The kernel at machine floats runs, keeps its arguments and ends with every semaphore at zero. -/
theorem frame_kernel : Cert.quiescent_Kernel (hKernel := Cert.Kernel.Gen.facts) := fun m g _ =>
  (θ_run Cert.Kernel.defs _ _).mono (fun _ h => ⟨fun c => ⟨(h.1 c).1, (h.1 c).2.1⟩, h.2⟩) (Cert.Kernel.Pf.run_main (F := Bits) m g)

/-- The same in exact arithmetic. -/
theorem frame_kernelIdeal : Cert.quiescent_KernelIdeal (hKernelIdeal := Cert.KernelIdeal.Gen.facts) := fun m g _ =>
  (θ_run Cert.KernelIdeal.defs _ _).mono (fun _ h => ⟨fun c => ⟨(h.1 c).1, (h.1 c).2.1⟩, h.2⟩) (Cert.KernelIdeal.Pf.run_main (F := Ideal) m g)

/-- The reference, in exact arithmetic; it declares no semaphore. -/
theorem frame_referenceIdeal : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.Value.reference_run m g)

/-- The exact reading of the kernel is the kernel's own text, with no operation replaced. -/
theorem preserves : Cert.preserves_Kernel_KernelIdeal := trivial

/-- In exact arithmetic the kernel computes the reference's result, cut by columns over the devices. -/
theorem algebraic : Cert.algebraic_KernelIdeal_ReferenceIdeal (hKernelIdeal := Cert.KernelIdeal.Gen.facts)
    (hReferenceIdeal := Cert.ReferenceIdeal.Gen.facts) := fun m g m' g' _ hag =>
  ⟨Cert.Value.spec (m' (((0 : Dev Cert.ReferenceIdeal.nD) : Thread Cert.ReferenceIdeal.nD Cert.ReferenceIdeal.τ).loc Cert.ReferenceIdeal.main_arg0))
      (m' (((0 : Dev Cert.ReferenceIdeal.nD) : Thread Cert.ReferenceIdeal.nD Cert.ReferenceIdeal.τ).loc Cert.ReferenceIdeal.main_arg1)),
    (θ_run Cert.KernelIdeal.defs _ _).mono (fun r h c =>
        ⟨Cert.Value.result_eq m _ _ (fun d => (hag d).1) (fun d => (hag d).2) c r.2 (h.1 c), (h.1 c).1, (h.1 c).2.1⟩)
      (Cert.KernelIdeal.Pf.run_main (F := Ideal) m g),
    (θ_run Cert.ReferenceIdeal.defs _ _).mono (fun _ h => h 0) (Cert.Value.reference_run m' g')⟩

/-- Every claim of the certificate. -/
theorem claim : Cert.Claim := ⟨Cert.Kernel.Gen.facts, Cert.KernelIdeal.Gen.facts, Cert.ReferenceIdeal.Gen.facts,
  frame_kernel, frame_kernelIdeal, frame_referenceIdeal, preserves, algebraic⟩

end Cert.Proof

end
